-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S2000000x10 : Shape := ⟨2, ![2000000, 10]⟩
abbrev S2000000 : Shape := ⟨1, ![2000000]⟩
abbrev S_ : Shape := ⟨0, ![]⟩

class Facts : Prop where
  bcast_S_S2000000x10 : S_.BroadcastsInDim S2000000x10 (![] : Fin 0 → Fin S2000000x10.rank)

variable [Facts]

def fn {F : FTy → Type} [FloatOps F] (main_arg0 : FVec F S2000000x10 .f32) (main_arg1 : IVec S2000000 32) : IVec S2000000x10 1 :=
  let main_cst : FVec F S_ .f32 := constant S_ .f32 0x7F800000#32
  let main_v0 : FVec F S2000000x10 .f32 := broadcastInDim S2000000x10 ![] bcast_S_S2000000x10 main_cst
  let main_v1 : IVec S2000000x10 1 := cmpf .olt main_arg0 main_v0
  main_v1
-- ==== Kernel.lean ====
abbrev S2000000x10 : Shape := ⟨2, ![2000000, 10]⟩
abbrev S2000000 : Shape := ⟨1, ![2000000]⟩
abbrev S_ : Shape := ⟨0, ![]⟩
abbrev S10 : Shape := ⟨1, ![10]⟩
abbrev S1 : Shape := ⟨1, ![1]⟩
abbrev S11 : Shape := ⟨1, ![11]⟩
abbrev S1x11 : Shape := ⟨2, ![1, 11]⟩
abbrev S999936x10 : Shape := ⟨2, ![999936, 10]⟩
abbrev S7812x1280 : Shape := ⟨2, ![7812, 1280]⟩
abbrev S999936 : Shape := ⟨1, ![999936]⟩
abbrev S7812x128 : Shape := ⟨2, ![7812, 128]⟩
abbrev S11x1280 : Shape := ⟨2, ![11, 1280]⟩
abbrev S1024x1280 : Shape := ⟨2, ![1024, 1280]⟩
abbrev S1024x128 : Shape := ⟨2, ![1024, 128]⟩
abbrev S128x1280 : Shape := ⟨2, ![128, 1280]⟩
abbrev S1x1 : Shape := ⟨2, ![1, 1]⟩
abbrev S8x1280 : Shape := ⟨2, ![8, 1280]⟩
abbrev S1x1280 : Shape := ⟨2, ![1, 1280]⟩
abbrev S1280 : Shape := ⟨1, ![1280]⟩
abbrev S1000064x10 : Shape := ⟨2, ![1000064, 10]⟩
abbrev S7813x1280 : Shape := ⟨2, ![7813, 1280]⟩
abbrev S1000064 : Shape := ⟨1, ![1000064]⟩
abbrev S7813x128 : Shape := ⟨2, ![7813, 128]⟩
abbrev S10x1280 : Shape := ⟨2, ![10, 1280]⟩
abbrev S1280x16 : Shape := ⟨2, ![1280, 16]⟩
abbrev S10x16 : Shape := ⟨2, ![10, 16]⟩
abbrev S16 : Shape := ⟨1, ![16]⟩
abbrev S1x16 : Shape := ⟨2, ![1, 16]⟩

abbrev nBuf : Space → Nat
  | .hbm => 42
  | .vmem => 23
  | .smem => 2
  | _ => 0

abbrev bufTy : (tb : Table) → Fin (tcTables nBuf tb) → BufTy
  | .hbm, ⟨0, _⟩ => ⟨S2000000x10, .f32⟩
  | .hbm, ⟨1, _⟩ => ⟨S2000000, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S1, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S1, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S1, .f32⟩
  | .hbm, ⟨24, _⟩ => ⟨S11, .f32⟩
  | .hbm, ⟨25, _⟩ => ⟨S1x11, .f32⟩
  | .hbm, ⟨26, _⟩ => ⟨S999936x10, .f32⟩
  | .hbm, ⟨27, _⟩ => ⟨S7812x1280, .f32⟩
  | .hbm, ⟨28, _⟩ => ⟨S999936, .i32⟩
  | .hbm, ⟨29, _⟩ => ⟨S7812x128, .i32⟩
  | .hbm, ⟨30, _⟩ => ⟨S11x1280, .f32⟩
  | .hbm, ⟨31, _⟩ => ⟨S11x1280, .f32⟩
  | .hbm, ⟨32, _⟩ => ⟨S11x1280, .f32⟩
  | .hbm, ⟨33, _⟩ => ⟨S1000064x10, .f32⟩
  | .hbm, ⟨34, _⟩ => ⟨S7813x1280, .f32⟩
  | .hbm, ⟨35, _⟩ => ⟨S1000064, .i32⟩
  | .hbm, ⟨36, _⟩ => ⟨S7813x128, .i32⟩
  | .hbm, ⟨37, _⟩ => ⟨S11x1280, .f32⟩
  | .hbm, ⟨38, _⟩ => ⟨S11x1280, .f32⟩
  | .hbm, ⟨39, _⟩ => ⟨S11x1280, .f32⟩
  | .hbm, ⟨40, _⟩ => ⟨S1x1, .f32⟩
  | .hbm, ⟨41, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1024x128, .i32⟩
  | .local _ .vmem, ⟨3, _⟩ => ⟨S1024x128, .i32⟩
  | .local _ .vmem, ⟨4, _⟩ => ⟨S11x1280, .f32⟩
  | .local _ .vmem, ⟨5, _⟩ => ⟨S11x1280, .f32⟩
  | .local _ .vmem, ⟨6, _⟩ => ⟨S11x1280, .f32⟩
  | .local _ .vmem, ⟨7, _⟩ => ⟨S1024x1280, .f32⟩
  | .local _ .vmem, ⟨8, _⟩ => ⟨S1024x1280, .f32⟩
  | .local _ .vmem, ⟨9, _⟩ => ⟨S1024x1280, .f32⟩
  | .local _ .vmem, ⟨10, _⟩ => ⟨S1024x128, .i32⟩
  | .local _ .vmem, ⟨11, _⟩ => ⟨S1024x128, .i32⟩
  | .local _ .vmem, ⟨12, _⟩ => ⟨S11x1280, .f32⟩
  | .local _ .vmem, ⟨13, _⟩ => ⟨S11x1280, .f32⟩
  | .local _ .vmem, ⟨14, _⟩ => ⟨S11x1280, .f32⟩
  | .local _ .vmem, ⟨15, _⟩ => ⟨S1024x1280, .f32⟩
  | .local _ .vmem, ⟨16, _⟩ => ⟨S11x1280, .f32⟩
  | .local _ .vmem, ⟨17, _⟩ => ⟨S11x1280, .f32⟩
  | .local _ .vmem, ⟨18, _⟩ => ⟨S11x1280, .f32⟩
  | .local _ .vmem, ⟨19, _⟩ => ⟨S11x1280, .f32⟩
  | .local _ .vmem, ⟨20, _⟩ => ⟨S11x1280, .f32⟩
  | .local _ .vmem, ⟨21, _⟩ => ⟨S11x1280, .f32⟩
  | .local _ .vmem, ⟨22, _⟩ => ⟨S1x1, .f32⟩
  | .local _ .smem, ⟨0, _⟩ => ⟨S1x11, .f32⟩
  | .local _ .smem, ⟨1, _⟩ => ⟨S1x11, .f32⟩
  | _, _ => ⟨S2000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6_0 : Ref sig .tc := ⟨.hbm, 30, rfl⟩
abbrev main_v6_1 : Ref sig .tc := ⟨.hbm, 31, rfl⟩
abbrev main_v6_2 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11_0 : Ref sig .tc := ⟨.hbm, 37, rfl⟩
abbrev main_v11_1 : Ref sig .tc := ⟨.hbm, 38, rfl⟩
abbrev main_v11_2 : Ref sig .tc := ⟨.hbm, 39, rfl⟩
abbrev main_v12 : Ref sig .tc := ⟨.hbm, 40, rfl⟩
abbrev main_v13 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22

abbrev nD : Nat := 1
abbrev τ : Topo := Topo.v7x

variable {F : FTy → Type} [FloatOps F]

abbrev grid0 : Pipeline.Grid := ⟨2, ![8, 11], ![false, false]⟩

def k0_off1 (i : grid0.Coords) : Fin 2 → Nat :=
  let c0 : Index := 0#32
  let arg1 : BitVec 32 := BitVec.ofNat 32 (i 1).val
  let v8 : Index := Scalar.indexCast arg1
  ![0, v8.toNat]
def k0_cond3 (i : grid0.Coords) : BitVec 1 :=
  let arg0 : BitVec 32 := BitVec.ofNat 32 (i 0).val
  let c7_i32 : BitVec 32 := 7#32
  let v14 : BitVec 1 := Scalar.cmpi .eq arg0 c7_i32
  let v_true : BitVec 1 := 1#1
  let v15 : BitVec 1 := Scalar.xori v14 v_true
  let v16 : BitVec 32 := Scalar.extui v15
  let c0_i32_4 : BitVec 32 := 0#32
  let v17 : BitVec 1 := Scalar.cmpi .ne v16 c0_i32_4
  v17

@[reducible] def k0_t1_loop : Scf.Loop 32 :=
  let c0_i32_6 : BitVec 32 := 0#32
  let c16_i32 : BitVec 32 := 16#32
  let v20 : BitVec 32 := Scalar.addi c0_i32_6 c16_i32
  let c1_i32 : BitVec 32 := 1#32
  ⟨c0_i32_6, v20, c1_i32⟩
def k0_off2 (k0_t1 : Fin k0_t1_loop.trips) (c0_i32_17 : BitVec 32) : Fin 2 → Nat :=
  let c0_i32_6 : BitVec 32 := 0#32
  let c1_i32 : BitVec 32 := 1#32
  let arg9 : BitVec 32 := Scf.iv c0_i32_6 c1_i32 k0_t1
  let c8_i32 : BitVec 32 := 8#32
  let v46 : BitVec 32 := Scalar.muli arg9 c8_i32
  let v47 : BitVec 32 := Scalar.addi v46 c0_i32_17
  let c8_i32_18 : BitVec 32 := 8#32
  let v48 : BitVec 32 := Scalar.muli v47 c8_i32_18
  let v49 : Index := Scalar.indexCast v48
  let c0_19 : Index := 0#32
  ![v49.toNat, 0]
def k0_off3 (i : grid0.Coords) : Fin 2 → Nat :=
  let arg1 : BitVec 32 := BitVec.ofNat 32 (i 1).val
  let v22 : Index := Scalar.indexCast arg1
  let c0_8 : Index := 0#32
  ![v22.toNat, 0]
def k0_cond4 (i : grid0.Coords) : BitVec 1 :=
  let arg0 : BitVec 32 := BitVec.ofNat 32 (i 0).val
  let c7_i32 : BitVec 32 := 7#32
  let v14 : BitVec 1 := Scalar.cmpi .eq arg0 c7_i32
  let v18 : BitVec 32 := Scalar.extui v14
  let c0_i32_5 : BitVec 32 := 0#32
  let v19 : BitVec 1 := Scalar.cmpi .ne v18 c0_i32_5
  v19

@[reducible] def k0_t2_loop : Scf.Loop 32 :=
  let c0_i32_6 : BitVec 32 := 0#32
  let c16_i32 : BitVec 32 := 16#32
  let v20 : BitVec 32 := Scalar.addi c0_i32_6 c16_i32
  let c1_i32 : BitVec 32 := 1#32
  ⟨c0_i32_6, v20, c1_i32⟩
def k0_off4 (k0_t2 : Fin k0_t2_loop.trips) (c0_i32_17 : BitVec 32) : Fin 2 → Nat :=
  let c0_i32_6 : BitVec 32 := 0#32
  let c1_i32 : BitVec 32 := 1#32
  let arg9 : BitVec 32 := Scf.iv c0_i32_6 c1_i32 k0_t2
  let c8_i32 : BitVec 32 := 8#32
  let v46 : BitVec 32 := Scalar.muli arg9 c8_i32
  let v47 : BitVec 32 := Scalar.addi v46 c0_i32_17
  let c8_i32_18 : BitVec 32 := 8#32
  let v48 : BitVec 32 := Scalar.muli v47 c8_i32_18
  let v49 : Index := Scalar.indexCast v48
  let c0_19 : Index := 0#32
  ![v49.toNat, 0]
def k0_off5 (i : grid0.Coords) : Fin 2 → Nat :=
  let arg1 : BitVec 32 := BitVec.ofNat 32 (i 1).val
  let v22 : Index := Scalar.indexCast arg1
  let c0_8 : Index := 0#32
  ![v22.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S11x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![8, 11], ![false, false]⟩

def k1_off1 (i : grid1.Coords) : Fin 2 → Nat :=
  let c0 : Index := 0#32
  let arg1 : BitVec 32 := BitVec.ofNat 32 (i 1).val
  let v8 : Index := Scalar.indexCast arg1
  ![0, v8.toNat]
def k1_cond3 (i : grid1.Coords) : BitVec 1 :=
  let arg0 : BitVec 32 := BitVec.ofNat 32 (i 0).val
  let c7_i32 : BitVec 32 := 7#32
  let v14 : BitVec 1 := Scalar.cmpi .eq arg0 c7_i32
  let v_true : BitVec 1 := 1#1
  let v15 : BitVec 1 := Scalar.xori v14 v_true
  let v16 : BitVec 32 := Scalar.extui v15
  let c0_i32_4 : BitVec 32 := 0#32
  let v17 : BitVec 1 := Scalar.cmpi .ne v16 c0_i32_4
  v17

@[reducible] def k1_t1_loop : Scf.Loop 32 :=
  let c0_i32_6 : BitVec 32 := 0#32
  let c16_i32 : BitVec 32 := 16#32
  let v20 : BitVec 32 := Scalar.addi c0_i32_6 c16_i32
  let c1_i32 : BitVec 32 := 1#32
  ⟨c0_i32_6, v20, c1_i32⟩
def k1_off2 (k1_t1 : Fin k1_t1_loop.trips) (c0_i32_17 : BitVec 32) : Fin 2 → Nat :=
  let c0_i32_6 : BitVec 32 := 0#32
  let c1_i32 : BitVec 32 := 1#32
  let arg9 : BitVec 32 := Scf.iv c0_i32_6 c1_i32 k1_t1
  let c8_i32 : BitVec 32 := 8#32
  let v46 : BitVec 32 := Scalar.muli arg9 c8_i32
  let v47 : BitVec 32 := Scalar.addi v46 c0_i32_17
  let c8_i32_18 : BitVec 32 := 8#32
  let v48 : BitVec 32 := Scalar.muli v47 c8_i32_18
  let v49 : Index := Scalar.indexCast v48
  let c0_19 : Index := 0#32
  ![v49.toNat, 0]
def k1_off3 (i : grid1.Coords) : Fin 2 → Nat :=
  let arg1 : BitVec 32 := BitVec.ofNat 32 (i 1).val
  let v22 : Index := Scalar.indexCast arg1
  let c0_8 : Index := 0#32
  ![v22.toNat, 0]
def k1_cond4 (i : grid1.Coords) : BitVec 1 :=
  let arg0 : BitVec 32 := BitVec.ofNat 32 (i 0).val
  let c7_i32 : BitVec 32 := 7#32
  let v14 : BitVec 1 := Scalar.cmpi .eq arg0 c7_i32
  let v18 : BitVec 32 := Scalar.extui v14
  let c0_i32_5 : BitVec 32 := 0#32
  let v19 : BitVec 1 := Scalar.cmpi .ne v18 c0_i32_5
  v19

@[reducible] def k1_t2_loop : Scf.Loop 32 :=
  let c0_i32_6 : BitVec 32 := 0#32
  let c16_i32 : BitVec 32 := 16#32
  let v20 : BitVec 32 := Scalar.addi c0_i32_6 c16_i32
  let c1_i32 : BitVec 32 := 1#32
  ⟨c0_i32_6, v20, c1_i32⟩
def k1_off4 (k1_t2 : Fin k1_t2_loop.trips) (c0_i32_17 : BitVec 32) : Fin 2 → Nat :=
  let c0_i32_6 : BitVec 32 := 0#32
  let c1_i32 : BitVec 32 := 1#32
  let arg9 : BitVec 32 := Scf.iv c0_i32_6 c1_i32 k1_t2
  let c8_i32 : BitVec 32 := 8#32
  let v46 : BitVec 32 := Scalar.muli arg9 c8_i32
  let v47 : BitVec 32 := Scalar.addi v46 c0_i32_17
  let c8_i32_18 : BitVec 32 := 8#32
  let v48 : BitVec 32 := Scalar.muli v47 c8_i32_18
  let v49 : Index := Scalar.indexCast v48
  let c0_19 : Index := 0#32
  ![v49.toNat, 0]
def k1_off5 (i : grid1.Coords) : Fin 2 → Nat :=
  let arg1 : BitVec 32 := BitVec.ofNat 32 (i 1).val
  let v22 : Index := Scalar.indexCast arg1
  let c0_8 : Index := 0#32
  ![v22.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x11 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S11x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S11x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S11x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := .none

abbrev stage2_0 : Fin 1 → Memref sig .tc .vmem S11x1280 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S11x1280 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S11x1280 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S11x1280 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S11x1280 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S11x1280 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== ReferenceIdeal.lean ====
abbrev S2000000x10 : Shape := ⟨2, ![2000000, 10]⟩
abbrev S2000000 : Shape := ⟨1, ![2000000]⟩
abbrev S_ : Shape := ⟨0, ![]⟩
abbrev S10 : Shape := ⟨1, ![10]⟩
abbrev S1 : Shape := ⟨1, ![1]⟩
abbrev S11 : Shape := ⟨1, ![11]⟩
abbrev S2000000x10x1 : Shape := ⟨3, ![2000000, 10, 1]⟩
abbrev S1x1x10 : Shape := ⟨3, ![1, 1, 10]⟩
abbrev S2000000x10x10 : Shape := ⟨3, ![2000000, 10, 10]⟩
abbrev S2000000x1 : Shape := ⟨2, ![2000000, 1]⟩
abbrev S1x10 : Shape := ⟨2, ![1, 10]⟩
abbrev S10x10 : Shape := ⟨2, ![10, 10]⟩
abbrev S10x1 : Shape := ⟨2, ![10, 1]⟩

abbrev nBuf : Space → Nat
  | .hbm => 96
  | .vmem => 0
  | .smem => 0
  | _ => 0

abbrev bufTy : (tb : Table) → Fin (tcTables nBuf tb) → BufTy
  | .hbm, ⟨0, _⟩ => ⟨S2000000x10, .f32⟩
  | .hbm, ⟨1, _⟩ => ⟨S2000000, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S1, .f32⟩
  | .hbm, ⟨14, _⟩ => ⟨S_, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S1, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S1, .f32⟩
  | .hbm, ⟨24, _⟩ => ⟨S11, .f32⟩
  | .hbm, ⟨25, _⟩ => ⟨S2000000x10x1, .f32⟩
  | .hbm, ⟨26, _⟩ => ⟨S10, .f32⟩
  | .hbm, ⟨27, _⟩ => ⟨S1x1x10, .f32⟩
  | .hbm, ⟨28, _⟩ => ⟨S2000000x10x10, .f32⟩
  | .hbm, ⟨29, _⟩ => ⟨S2000000x10x10, .f32⟩
  | .hbm, ⟨30, _⟩ => ⟨S2000000x10x10, .i1⟩
  | .hbm, ⟨31, _⟩ => ⟨S10, .f32⟩
  | .hbm, ⟨32, _⟩ => ⟨S1x1x10, .f32⟩
  | .hbm, ⟨33, _⟩ => ⟨S2000000x10x10, .f32⟩
  | .hbm, ⟨34, _⟩ => ⟨S2000000x10x10, .f32⟩
  | .hbm, ⟨35, _⟩ => ⟨S2000000x10x10, .i1⟩
  | .hbm, ⟨36, _⟩ => ⟨S2000000x10x10, .i1⟩
  | .hbm, ⟨37, _⟩ => ⟨S2000000x1, .i32⟩
  | .hbm, ⟨38, _⟩ => ⟨S10, .i32⟩
  | .hbm, ⟨39, _⟩ => ⟨S1x10, .i32⟩
  | .hbm, ⟨40, _⟩ => ⟨S2000000x10, .i32⟩
  | .hbm, ⟨41, _⟩ => ⟨S2000000x10, .i32⟩
  | .hbm, ⟨42, _⟩ => ⟨S2000000x10, .i1⟩
  | .hbm, ⟨43, _⟩ => ⟨S2000000x10, .f32⟩
  | .hbm, ⟨44, _⟩ => ⟨S_, .f32⟩
  | .hbm, ⟨45, _⟩ => ⟨S_, .f32⟩
  | .hbm, ⟨46, _⟩ => ⟨S2000000x10x10, .f32⟩
  | .hbm, ⟨47, _⟩ => ⟨S2000000x10x10, .f32⟩
  | .hbm, ⟨48, _⟩ => ⟨S2000000x10x10, .f32⟩
  | .hbm, ⟨49, _⟩ => ⟨S2000000x10x10, .f32⟩
  | .hbm, ⟨50, _⟩ => ⟨S_, .f32⟩
  | .hbm, ⟨51, _⟩ => ⟨S10x10, .f32⟩
  | .hbm, ⟨52, _⟩ => ⟨S_, .f32⟩
  | .hbm, ⟨53, _⟩ => ⟨S_, .f32⟩
  | .hbm, ⟨54, _⟩ => ⟨S2000000x10x10, .f32⟩
  | .hbm, ⟨55, _⟩ => ⟨S2000000x10x10, .f32⟩
  | .hbm, ⟨56, _⟩ => ⟨S2000000x10x10, .f32⟩
  | .hbm, ⟨57, _⟩ => ⟨S_, .f32⟩
  | .hbm, ⟨58, _⟩ => ⟨S10x10, .f32⟩
  | .hbm, ⟨59, _⟩ => ⟨S2000000x10x1, .f32⟩
  | .hbm, ⟨60, _⟩ => ⟨S_, .f32⟩
  | .hbm, ⟨61, _⟩ => ⟨S_, .f32⟩
  | .hbm, ⟨62, _⟩ => ⟨S2000000x10x10, .f32⟩
  | .hbm, ⟨63, _⟩ => ⟨S2000000x10x10, .f32⟩
  | .hbm, ⟨64, _⟩ => ⟨S2000000x10x10, .f32⟩
  | .hbm, ⟨65, _⟩ => ⟨S_, .f32⟩
  | .hbm, ⟨66, _⟩ => ⟨S10x10, .f32⟩
  | .hbm, ⟨67, _⟩ => ⟨S_, .f32⟩
  | .hbm, ⟨68, _⟩ => ⟨S10x10, .f32⟩
  | .hbm, ⟨69, _⟩ => ⟨S10x10, .i1⟩
  | .hbm, ⟨70, _⟩ => ⟨S_, .f32⟩
  | .hbm, ⟨71, _⟩ => ⟨S_, .f32⟩
  | .hbm, ⟨72, _⟩ => ⟨S10x10, .f32⟩
  | .hbm, ⟨73, _⟩ => ⟨S10x10, .f32⟩
  | .hbm, ⟨74, _⟩ => ⟨S10x10, .f32⟩
  | .hbm, ⟨75, _⟩ => ⟨S10x10, .f32⟩
  | .hbm, ⟨76, _⟩ => ⟨S_, .f32⟩
  | .hbm, ⟨77, _⟩ => ⟨S10, .f32⟩
  | .hbm, ⟨78, _⟩ => ⟨S10x1, .f32⟩
  | .hbm, ⟨79, _⟩ => ⟨S10x10, .f32⟩
  | .hbm, ⟨80, _⟩ => ⟨S10x10, .f32⟩
  | .hbm, ⟨81, _⟩ => ⟨S10x10, .f32⟩
  | .hbm, ⟨82, _⟩ => ⟨S10x10, .f32⟩
  | .hbm, ⟨83, _⟩ => ⟨S10x10, .f32⟩
  | .hbm, ⟨84, _⟩ => ⟨S_, .f32⟩
  | .hbm, ⟨85, _⟩ => ⟨S_, .f32⟩
  | .hbm, ⟨86, _⟩ => ⟨S10x10, .f32⟩
  | .hbm, ⟨87, _⟩ => ⟨S10x10, .f32⟩
  | .hbm, ⟨88, _⟩ => ⟨S_, .f32⟩
  | .hbm, ⟨89, _⟩ => ⟨S10, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v26 : Ref sig .tc := ⟨.hbm, 64, rfl⟩
abbrev main_cst_7 : Ref sig .tc := ⟨.hbm, 65, rfl⟩
abbrev main_v27 : Ref sig .tc := ⟨.hbm, 66, rfl⟩
abbrev main_cst_8 : Ref sig .tc := ⟨.hbm, 67, rfl⟩
abbrev main_v28 : Ref sig .tc := ⟨.hbm, 68, rfl⟩
abbrev main_v29 : Ref sig .tc := ⟨.hbm, 69, rfl⟩
abbrev main_cst_9 : Ref sig .tc := ⟨.hbm, 70, rfl⟩
abbrev main_call4_v0 : Ref sig .tc := ⟨.hbm, 71, rfl⟩
abbrev main_call4_v1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_10 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_11 : Ref sig .tc := ⟨.hbm, 84, rfl⟩
abbrev main_call5_v0 : Ref sig .tc := ⟨.hbm, 85, rfl⟩
abbrev main_call5_v1 : Ref sig .tc := ⟨.hbm, 86, rfl⟩
abbrev main_v40 : Ref sig .tc := ⟨.hbm, 87, rfl⟩
abbrev main_cst_12 : Ref sig .tc := ⟨.hbm, 88, rfl⟩
abbrev main_v41 : Ref sig .tc := ⟨.hbm, 89, rfl⟩
abbrev main_cst_13 : Ref sig .tc := ⟨.hbm, 90, rfl⟩
abbrev main_v42 : Ref sig .tc := ⟨.hbm, 91, rfl⟩
abbrev main_cst_14 : Ref sig .tc := ⟨.hbm, 92, rfl⟩
abbrev main_v43 : Ref sig .tc := ⟨.hbm, 93, rfl⟩
abbrev main_cst_15 : Ref sig .tc := ⟨.hbm, 94, rfl⟩
abbrev main_v44 : Ref sig .tc := ⟨.hbm, 95, rfl⟩

abbrev nD : Nat := 1
abbrev τ : Topo := Topo.v7x

variable {F : FTy → Type} [FloatOps F]
-- ==== Proof.Part.Rows.lean ====
/-
  What one grid point of a streaming call computes out of its blocks, in terms a reader can follow: the block is read in
  chunks of eight rows, and each chunk adds to three running [8,1280] vectors — how many elements exceed the threshold,
  the sum of those elements, and the sum of their match marks.
-/
module

public import proofs.«01_k».proof.Proof.Gen.KernelIdeal.Loops
public import Idealize.ShloMosaic.Lib.Pipeline.Regions
public import Idealize.ShloMosaic.Lib.Pointwise
public import Idealize.ShloMosaic.Lib.VecWindow
public import Idealize.ShloMosaic.Lib.WritesUnit

@[expose] public section

noncomputable section

namespace Cert.KernelIdeal.Part

open Idealize.ShloMosaic Idealize.ShloMosaic.TcCoe
open Cert.KernelIdeal Cert.KernelIdeal.Gen

variable {F : FTy → Type} [FloatOps F]

/-- The zero and the one the kernel counts with. -/
abbrev zero : F .f32 := Scalar.ofBits .f32 0x00000000#32
abbrev one : F .f32 := Scalar.ofBits .f32 0x3F800000#32

/-- Three running vectors of eight rows: the count, the sum of the elements, the sum of the match marks. -/
abbrev Acc (F : FTy → Type) [FloatOps F] : Type := FVec F S8x1280 .f32 × FVec F S8x1280 .f32 × FVec F S8x1280 .f32

/-- The eight rows of a block that chunk `q` reads. -/
def rows (X : Vec F S1024x1280 .f32) (q : ℕ) : FVec F S8x1280 .f32 :=
  fun j => X (ix2 ⟨(8 * q + (j 0).val) % 1024, Nat.mod_lt _ (by decide)⟩ (j 1))

/-- The same rows with every row at or past `lim` replaced by zero. -/
def mrows (lim : BitVec 32) (X : Vec F S1024x1280 .f32) (q : ℕ) : FVec F S8x1280 .f32 :=
  select (cmpi .slt (iota .tc S8x1280 32 [0] iota_S8x1280_d0_w32)
    (broadcast S8x1280 (Scalar.subi lim (BitVec.ofNat 32 (8 * q))))) (rows X q) (broadcast S8x1280 zero)

/-- What one chunk `p` with marks `m` adds to the running vectors at threshold `e`. -/
def step (e : F .f32) (p m : FVec F S8x1280 .f32) (a : Acc F) : Acc F :=
  (addf a.1 (select (cmpf .ogt p (broadcast S8x1280 e)) (broadcast S8x1280 one) (broadcast S8x1280 zero)),
   addf a.2.1 (select (cmpf .ogt p (broadcast S8x1280 e)) p (broadcast S8x1280 zero)),
   addf a.2.2 (select (cmpf .ogt p (broadcast S8x1280 e)) m (broadcast S8x1280 zero)))

/-- The running vectors after the first `q` chunks. -/
def acc (e : F .f32) (p m : ℕ → FVec F S8x1280 .f32) : ℕ → Acc F
  | 0 => (broadcast S8x1280 zero, broadcast S8x1280 zero, broadcast S8x1280 zero)
  | q + 1 => step e (p q) (m q) (acc e p m q)

/-- Eight chunks at a stroke, as one trip of the loop takes them. -/
theorem acc_add8 (e : F .f32) (p m : ℕ → FVec F S8x1280 .f32) (q : ℕ) : acc e p m (q + 8)
    = step e (p (q + 7)) (m (q + 7)) (step e (p (q + 6)) (m (q + 6)) (step e (p (q + 5)) (m (q + 5))
      (step e (p (q + 4)) (m (q + 4)) (step e (p (q + 3)) (m (q + 3)) (step e (p (q + 2)) (m (q + 2))
      (step e (p (q + 1)) (m (q + 1)) (step e (p q) (m q) (acc e p m q)))))))) := rfl

/-- A load of eight rows of a block, the first at `64 k + 8 r`, reads chunk `8 k + r`. -/
theorem readAt_rows {κ : Kind} {sp : Space} (v : View sig κ sp S1024x1280 .f32) (f : v.ty.Contents (Elt F)) (off : Fin 2 → ℕ)
    (inb : ∀ a, off a + S8x1280.size a ≤ S1024x1280.size a) (q : ℕ) (h : off = ![8 * q, 0]) :
    v.readAt (Elt F) (Rect.unit (s := S1024x1280) off S8x1280.size inb).toLoadRect f = rows (v.read (Elt F) f) q := by
  subst h
  have h0 : 8 * q + 8 ≤ 1024 := inb 0
  funext j
  show v.read (Elt F) f _ = v.read (Elt F) f _
  congr 1
  funext a
  apply Fin.ext
  have hj : (j 0).val < 8 := (j 0).isLt
  match a with
  | ⟨0, _⟩ =>
    show 8 * q + 1 * (j 0).val = (8 * q + (j 0).val) % 1024
    rw [Nat.mod_eq_of_lt (by omega)]; omega
  | ⟨1, _⟩ => show 0 + 1 * (j 1).val = (j 1).val; omega

/-- The row a chunk starts at, as the kernel's index words compute it. -/
theorem base_word : ∀ (k : Fin 16) (r : Fin 8),
    Scalar.muli (Scalar.addi (Scalar.muli (Scf.iv 0#32 1#32 k.val) 8#32) (BitVec.ofNat 32 r.val)) 8#32
      = BitVec.ofNat 32 (8 * (8 * k.val + r.val)) := by decide +kernel

/-- The match marks a point prepares from its block of labels: each label is spread over its sample's ten lanes by a product
    with a 0/1 matrix and compared with the lane's class. -/
def marks (Y : Vec F S1024x128 .i32) : FVec F S1024x1280 .f32 :=
  k0_pay4 (k0_pay24 Y) 10#32 k0_pay25 k0_pay26 k0_pay27 k0_pay28

/-- A row of the output with the column sums of a running vector added to it. -/
def addRow (a : FVec F S8x1280 .f32) (o : Vec F S1x1280 .f32) : FVec F S1x1280 .f32 :=
  addf (shapeCast S1x1280 o shapeCasts_S1x1280_S1x1280)
    (shapeCast S1x1280 (multiReduction .add [0] S1280 a 0x00000000#32 reduces_S8x1280_S1280 (.inl rfl) rfl) shapeCasts_S1280_S1x1280)

/-- The output with row `k` so increased. -/
def upd (k : Fin 11) (a : FVec F S8x1280 .f32) (O : Vec F S11x1280 .f32) : Vec F S11x1280 .f32 :=
  fun j => if (j 0).val = k.val then addRow a (fun x => O (ix2 k (x 1))) (ix2 0 (j 1)) else O j

/-- The output before anything is added. -/
def zeros : Vec F S11x1280 .f32 := broadcast S11x1280 zero

/-- A store of row `k`, the row loaded just before with a running vector's column sums added, leaves `upd`. -/
theorem read_upd {κ : Kind} {sp : Space} (v : View sig κ sp S11x1280 .f32) (f : v.ty.Contents (Elt F)) (L : List (View.Piece (Elt F) S11x1280 .f32))
    (off : Fin 2 → ℕ) (inb : ∀ a, off a + S1x1280.size a ≤ S11x1280.size a) (k : Fin 11) (h : off = ![k.val, 0]) (a : FVec F S8x1280 .f32) :
    v.read (Elt F) (v.writes (Elt F) f (⟨Rect.unit (s := S11x1280) off S1x1280.size inb,
        addRow a (v.readAt (Elt F) (Rect.unit (s := S11x1280) off S1x1280.size inb).toLoadRect (v.writes (Elt F) f L))⟩ :: L))
      = upd k a (v.read (Elt F) (v.writes (Elt F) f L)) := by
  have hrow : v.readAt (Elt F) (Rect.unit (s := S11x1280) off S1x1280.size inb).toLoadRect (v.writes (Elt F) f L)
      = fun x => v.read (Elt F) (v.writes (Elt F) f L) (ix2 k (x 1)) := by
    subst h
    funext x
    show v.read (Elt F) (v.writes (Elt F) f L) _ = v.read (Elt F) (v.writes (Elt F) f L) _
    congr 1
    funext b
    apply Fin.ext
    have hx : (x 0).val < 1 := (x 0).isLt
    match b with
    | ⟨0, _⟩ => show k.val + 1 * (x 0).val = k.val; omega
    | ⟨1, _⟩ => show 0 + 1 * (x 1).val = (x 1).val; omega
  rw [hrow]
  funext j
  by_cases hj : (j 0).val = k.val
  · rw [View.read_writes_cons_rows_of_mem v f inb _ L j (ix2 0 (j 1)) h (by simpa using hj) rfl, upd, if_pos hj]; rfl
  · rw [View.read_writes_cons_rows_of_not_mem (W := 1) v f inb _ L j h rfl (by omega), upd, if_neg hj]

/-- `read_upd` with the store's payload, its running vector and the output before it given by equations. -/
theorem read_upd_of {κ : Kind} {sp : Space} (v : View sig κ sp S11x1280 .f32) (f : v.ty.Contents (Elt F)) (L : List (View.Piece (Elt F) S11x1280 .f32))
    (off : Fin 2 → ℕ) (inb : ∀ a, off a + S1x1280.size a ≤ S11x1280.size a) (w : FVec F S1x1280 .f32) (k : Fin 11) (a a' : FVec F S8x1280 .f32)
    (O : Vec F S11x1280 .f32) (h : off = ![k.val, 0])
    (hw : w = addRow a (v.readAt (Elt F) (Rect.unit (s := S11x1280) off S1x1280.size inb).toLoadRect (v.writes (Elt F) f L))) (ha : a = a')
    (hO : v.read (Elt F) (v.writes (Elt F) f L) = O) :
    v.read (Elt F) (v.writes (Elt F) f (⟨Rect.unit (s := S11x1280) off S1x1280.size inb, w⟩ :: L)) = upd k a' O := by
  rw [hw, read_upd v f L off inb k h a, ha, hO]

/-- A store over a whole buffer reads back as its payload. -/
theorem read_whole {κ : Kind} {sp : Space} {s : Shape} {e : EltTy} (v : View sig κ sp s e) (f : v.ty.Contents (Elt F)) (off : Fin s.rank → ℕ)
    (inb : ∀ a, off a + s.size a ≤ s.size a) (w x : s.Idx → Elt F e) (h : w = x) :
    v.read (Elt F) (v.writes (Elt F) f [⟨Rect.unit off s.size inb, w⟩]) = x :=
  (View.read_writes_full v f inb w []).trans h

/-- The one threshold a point loads. -/
theorem readAt_threshold {κ : Kind} {sp : Space} (v : View sig κ sp S1x11 .f32) (f : v.ty.Contents (Elt F)) (off : Fin 2 → ℕ)
    (inb : ∀ a, off a + S1x1.size a ≤ S1x11.size a) (k : Fin 11) (h : off = ![0, k.val])
    (hp : 0 < (Rect.unit (s := S1x11) off S1x1.size inb).toLoadRect.shape.numel) :
    v.readAt (Elt F) (Rect.unit (s := S1x11) off S1x1.size inb).toLoadRect f (Shape.Idx.first hp) = v.read (Elt F) f (ix2 0 k) := by
  subst h
  show v.read (Elt F) f _ = v.read (Elt F) f _
  congr 1
  funext b
  apply Fin.ext
  match b with
  | ⟨0, _⟩ => rfl
  | ⟨1, _⟩ => rfl

/-- The three running vectors of point `(b, k)` after its whole block: threshold `k` of `X2`, the block `X3` (the last block with
    its rows past the array's `n` masked out), the marks `M`. -/
def point (n : BitVec 32) (b : ℕ) (k : Fin 11) (X2 : Vec F S1x11 .f32) (X3 M : Vec F S1024x1280 .f32) : Acc F :=
  acc (X2 (ix2 0 k)) (if b = 7 then mrows (Scalar.subi n (Scalar.muli (BitVec.ofNat 32 b) 1024#32)) X3 else rows X3) (rows M) 128

/-- Equal marks, equal running vectors. -/
theorem acc_marks (e : F .f32) (p : ℕ → FVec F S8x1280 .f32) (q : ℕ) (M M' : Vec F S1024x1280 .f32) (h : M = M') :
    acc e p (rows M) q = acc e p (rows M') q := by rw [h]

/-- The marks a point works with: freshly prepared at a block's first threshold, found in the scratch at the others. -/
def marksAt (k : Fin 11) (X4 : Vec F S1024x128 .i32) (X8 : Vec F S1024x1280 .f32) : Vec F S1024x1280 .f32 :=
  if k.val = 0 then marks X4 else X8

/-- What a point adds to: zeros at the very first point, the output as found at the others. -/
def start (b : ℕ) (k : Fin 11) (O : Vec F S11x1280 .f32) : Vec F S11x1280 .f32 := if b = 0 ∧ k.val = 0 then zeros else O

end Cert.KernelIdeal.Part

end
-- ==== Proof.Part.Trip0.lean ====
/-
  The two loops of a streaming call, one trip at a time: an unmasked trip of eight chunks and a masked one (the last block,
  whose rows past the array's end count as zeros), each with the invariant that carries it through the loop.
-/
module

public import proofs.«01_k».proof.Proof.Part.Rows

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

/-- How many rows of the array are left at the block a point works on. -/
abbrev lim0 (i : grid0.Coords) : BitVec 32 := Scalar.subi 7812#32 (Scalar.muli (BitVec.ofNat 32 (i 0).val) 1024#32)

/-- One trip of an unmasked loop: the running vectors before it are those after `8 k` chunks, and after it those after `8 (k + 1)`. -/
theorem trip0_plain (𝒱 : Variants) (c : Dev nD) (bd : Option 𝒱.V) (i : grid0.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k0_cond3 i = 1#1) (X3 : BufTy.Contents (Elt F) arg3.view.ty) (X8 : BufTy.Contents (Elt F) arg8.view.ty) (k : Fin k0_t1_loop.trips) (E : Set ℕ) :
    (iprop((arg3.view.loc (c : Thread nD τ) ↦[arg3.view.set]{fullShare} X3) ∗ (arg8.view.loc (c : Thread nD τ) ↦[arg8.view.set]{fullShare} X8)) : sProp (MT nD τ sig Unit (Elt F) ℕ U ℕ))
      ⊢ wp frame (wpE (defs₀ (F := F)) 𝒱 (c : Thread nD τ) bd) E (k0_t1_body (F := F) i arg2 harg2 arg3 harg3 arg4 harg4 arg5 harg5 arg6 harg6 arg7 harg7 arg8 harg8 e h k (acc e (rows (arg3.view.read (Elt F) X3)) (rows (arg8.view.read (Elt F) X8)) (8 * k.val)))
          (fun yld => iprop((arg3.view.loc (c : Thread nD τ) ↦[arg3.view.set]{fullShare} X3) ∗ (arg8.view.loc (c : Thread nD τ) ↦[arg8.view.set]{fullShare} X8)
            ∗ ⌜yld = (acc e (rows (arg3.view.read (Elt F) X3)) (rows (arg8.view.read (Elt F) X8)) (8 * (k.val + 1)))⌝)) := by
    have hk : k.val < 16 := Nat.lt_of_lt_of_le k.isLt k0_t1_abs.2.1
    generalize hA : (acc e (rows (arg3.view.read (Elt F) X3)) (rows (arg8.view.read (Elt F) X8)) (8 * k.val)) = A
    unfold k0_t1_body
    iintro ⟨HR_arg3, HR_arg8⟩
    sl_exec
    sl_step
    isplitl [HR_arg3]; · iassumption
    isplitl [HR_arg8]; · iassumption
    ipureintro
    have hoff : ∀ r : Fin 8, k0_off2 k (BitVec.ofNat 32 r.val) = ![8 * (8 * k.val + r.val), 0] := fun r => by
      rw [k0_off2_eq]; congr 1; omega
    have hr3 : ∀ (r : Fin 8) inb, arg3.view.readAt (Elt F) (Rect.unit (s := S1024x1280) (k0_off2 k (BitVec.ofNat 32 r.val)) S8x1280.size inb).toLoadRect X3
        = rows (arg3.view.read (Elt F) X3) (8 * k.val + r.val) := fun r inb => readAt_rows _ _ _ inb _ (hoff r)
    have hr8 : ∀ (r : Fin 8) inb, arg8.view.readAt (Elt F) (Rect.unit (s := S1024x1280) (k0_off2 k (BitVec.ofNat 32 r.val)) S8x1280.size inb).toLoadRect X8
        = rows (arg8.view.read (Elt F) X8) (8 * k.val + r.val) := fun r inb => readAt_rows _ _ _ inb _ (hoff r)
    rw [show 8 * (k.val + 1) = 8 * k.val + 8 by omega, acc_add8, hA]
    sl_unfold_run_names
    unfold_payloads
    simp only [shapeCast_self, hr3 ⟨0, by decide⟩, hr3 ⟨1, by decide⟩, hr3 ⟨2, by decide⟩, hr3 ⟨3, by decide⟩, hr3 ⟨4, by decide⟩, hr3 ⟨5, by decide⟩, hr3 ⟨6, by decide⟩, hr3 ⟨7, by decide⟩, hr8 ⟨0, by decide⟩, hr8 ⟨1, by decide⟩, hr8 ⟨2, by decide⟩, hr8 ⟨3, by decide⟩, hr8 ⟨4, by decide⟩, hr8 ⟨5, by decide⟩, hr8 ⟨6, by decide⟩, hr8 ⟨7, by decide⟩]
    rfl

/-- The loop's invariant: before trip `k` the running vectors are those after `8 k` chunks. -/
@[sl_loop] def loop0_plain (𝒱 : Variants) (c : Dev nD) (bd : Option 𝒱.V) (E : Set ℕ) (i : grid0.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k0_cond3 i = 1#1) (X3 : BufTy.Contents (Elt F) arg3.view.ty) (X8 : BufTy.Contents (Elt F) arg8.view.ty) :
    LoopInvTy_k0_t1 (F := F) Unit ℕ U ℕ 𝒱 c bd E i arg2 harg2 arg3 harg3 arg4 harg4 arg5 harg5 arg6 harg6 arg7 harg7 arg8 harg8 e h
      (k0_pay5 (F := F), k0_pay5 (F := F), k0_pay5 (F := F)) where
  inv := fun k a => iprop((arg3.view.loc (c : Thread nD τ) ↦[arg3.view.set]{fullShare} X3) ∗ (arg8.view.loc (c : Thread nD τ) ↦[arg8.view.set]{fullShare} X8)
    ∗ ⌜a = (acc e (rows (arg3.view.read (Elt F) X3)) (rows (arg8.view.read (Elt F) X8)) (8 * k))⌝)
  step k a := by
    iintro ⟨H3, H8, %ha⟩
    subst ha
    iapply (trip0_plain 𝒱 c bd i arg2 harg2 arg3 harg3 arg4 harg4 arg5 harg5 arg6 harg6 arg7 harg7 arg8 harg8 e h X3 X8 k E)
    isplitl [H3] <;> iassumption

/-- One trip of a masked loop: the running vectors before it are those after `8 k` chunks, and after it those after `8 (k + 1)`. -/
theorem trip0_masked (𝒱 : Variants) (c : Dev nD) (bd : Option 𝒱.V) (i : grid0.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k0_cond4 i = 1#1) (X3 : BufTy.Contents (Elt F) arg3.view.ty) (X8 : BufTy.Contents (Elt F) arg8.view.ty) (k : Fin k0_t2_loop.trips) (E : Set ℕ) :
    (iprop((arg3.view.loc (c : Thread nD τ) ↦[arg3.view.set]{fullShare} X3) ∗ (arg8.view.loc (c : Thread nD τ) ↦[arg8.view.set]{fullShare} X8)) : sProp (MT nD τ sig Unit (Elt F) ℕ U ℕ))
      ⊢ wp frame (wpE (defs₀ (F := F)) 𝒱 (c : Thread nD τ) bd) E (k0_t2_body (F := F) i arg2 harg2 arg3 harg3 arg4 harg4 arg5 harg5 arg6 harg6 arg7 harg7 arg8 harg8 e (lim0 i) (iota .tc S8x1280 32 [0] iota_S8x1280_d0_w32) h k (acc e (mrows (lim0 i) (arg3.view.read (Elt F) X3)) (rows (arg8.view.read (Elt F) X8)) (8 * k.val)))
          (fun yld => iprop((arg3.view.loc (c : Thread nD τ) ↦[arg3.view.set]{fullShare} X3) ∗ (arg8.view.loc (c : Thread nD τ) ↦[arg8.view.set]{fullShare} X8)
            ∗ ⌜yld = (acc e (mrows (lim0 i) (arg3.view.read (Elt F) X3)) (rows (arg8.view.read (Elt F) X8)) (8 * (k.val + 1)))⌝)) := by
    have hk : k.val < 16 := Nat.lt_of_lt_of_le k.isLt k0_t2_abs.2.1
    generalize hA : (acc e (mrows (lim0 i) (arg3.view.read (Elt F) X3)) (rows (arg8.view.read (Elt F) X8)) (8 * k.val)) = A
    unfold k0_t2_body
    iintro ⟨HR_arg3, HR_arg8⟩
    sl_exec
    sl_step
    isplitl [HR_arg3]; · iassumption
    isplitl [HR_arg8]; · iassumption
    ipureintro
    have hoff : ∀ r : Fin 8, k0_off4 k (BitVec.ofNat 32 r.val) = ![8 * (8 * k.val + r.val), 0] := fun r => by
      rw [k0_off4_eq]; congr 1; omega
    have hr3 : ∀ (r : Fin 8) inb, arg3.view.readAt (Elt F) (Rect.unit (s := S1024x1280) (k0_off4 k (BitVec.ofNat 32 r.val)) S8x1280.size inb).toLoadRect X3
        = rows (arg3.view.read (Elt F) X3) (8 * k.val + r.val) := fun r inb => readAt_rows _ _ _ inb _ (hoff r)
    have hr8 : ∀ (r : Fin 8) inb, arg8.view.readAt (Elt F) (Rect.unit (s := S1024x1280) (k0_off4 k (BitVec.ofNat 32 r.val)) S8x1280.size inb).toLoadRect X8
        = rows (arg8.view.read (Elt F) X8) (8 * k.val + r.val) := fun r inb => readAt_rows _ _ _ inb _ (hoff r)
    have hb : ∀ r : Fin 8, Scalar.muli (Scalar.addi (Scalar.muli (Scf.iv 0#32 1#32 k.val) 8#32) (BitVec.ofNat 32 r.val)) 8#32 = BitVec.ofNat 32 (8 * (8 * k.val + r.val)) :=
      fun r => base_word ⟨k.val, hk⟩ r
    rw [show 8 * (k.val + 1) = 8 * k.val + 8 by omega, acc_add8, hA]
    sl_unfold_run_names
    unfold_payloads
    simp only [shapeCast_self, hr3 ⟨0, by decide⟩, hr3 ⟨1, by decide⟩, hr3 ⟨2, by decide⟩, hr3 ⟨3, by decide⟩, hr3 ⟨4, by decide⟩, hr3 ⟨5, by decide⟩, hr3 ⟨6, by decide⟩, hr3 ⟨7, by decide⟩, hr8 ⟨0, by decide⟩, hr8 ⟨1, by decide⟩, hr8 ⟨2, by decide⟩, hr8 ⟨3, by decide⟩, hr8 ⟨4, by decide⟩, hr8 ⟨5, by decide⟩, hr8 ⟨6, by decide⟩, hr8 ⟨7, by decide⟩]
    have b0 := hb ⟨0, by decide⟩; have b1 := hb ⟨1, by decide⟩; have b2 := hb ⟨2, by decide⟩; have b3 := hb ⟨3, by decide⟩
    have b4 := hb ⟨4, by decide⟩; have b5 := hb ⟨5, by decide⟩; have b6 := hb ⟨6, by decide⟩; have b7 := hb ⟨7, by decide⟩
    simp only at b0 b1 b2 b3 b4 b5 b6 b7
    simp only [b0, b1, b2, b3, b4, b5, b6, b7]
    rfl

/-- The loop's invariant: before trip `k` the running vectors are those after `8 k` chunks. -/
@[sl_loop] def loop0_masked (𝒱 : Variants) (c : Dev nD) (bd : Option 𝒱.V) (E : Set ℕ) (i : grid0.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k0_cond4 i = 1#1) (X3 : BufTy.Contents (Elt F) arg3.view.ty) (X8 : BufTy.Contents (Elt F) arg8.view.ty) :
    LoopInvTy_k0_t2 (F := F) Unit ℕ U ℕ 𝒱 c bd E i arg2 harg2 arg3 harg3 arg4 harg4 arg5 harg5 arg6 harg6 arg7 harg7 arg8 harg8 e (lim0 i) (iota .tc S8x1280 32 [0] iota_S8x1280_d0_w32) h
      (k0_pay5 (F := F), k0_pay5 (F := F), k0_pay5 (F := F)) where
  inv := fun k a => iprop((arg3.view.loc (c : Thread nD τ) ↦[arg3.view.set]{fullShare} X3) ∗ (arg8.view.loc (c : Thread nD τ) ↦[arg8.view.set]{fullShare} X8)
    ∗ ⌜a = (acc e (mrows (lim0 i) (arg3.view.read (Elt F) X3)) (rows (arg8.view.read (Elt F) X8)) (8 * k))⌝)
  step k a := by
    iintro ⟨H3, H8, %ha⟩
    subst ha
    iapply (trip0_masked 𝒱 c bd i arg2 harg2 arg3 harg3 arg4 harg4 arg5 harg5 arg6 harg6 arg7 harg7 arg8 harg8 e h X3 X8 k E)
    isplitl [H3] <;> iassumption

end Cert.KernelIdeal.Part

end
-- ==== Proof.Part.Body0.lean ====
/-
  The whole body of streaming call 0 at one grid point: from its windows' blocks and the scratch, what the three outputs and
  the scratch hold afterwards.
-/
module

public import proofs.«01_k».proof.Proof.Part.Trip0

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

/-- The outputs are zeroed at the first point only. -/
theorem cond0_init (i : grid0.Coords) : k0_cond1 i = 1#1 ↔ (i 0).val = 0 ∧ (i 1).val = 0 := by
  have h : ∀ (a : Fin 8) (b : Fin 11), Scalar.cmpi .ne (Scalar.extui (Scalar.andi (Scalar.cmpi .eq (BitVec.ofNat 32 a.val) 0#32) (Scalar.cmpi .eq (BitVec.ofNat 32 b.val) 0#32))) (0#32) = 1#1 ↔ a.val = 0 ∧ b.val = 0 := by decide
  exact h (i 0) (i 1)

/-- The condition under which a point prepares its marks. -/
abbrev prep0 (i : grid0.Coords) : BitVec 1 := Scalar.cmpi .ne (Scalar.extui (Scalar.cmpi .eq (BitVec.ofNat 32 (i 1).val) 0#32)) (0#32 : BitVec 32)

/-- The marks are prepared at a block's first threshold. -/
theorem cond0_prep (i : grid0.Coords) : prep0 i = 1#1 ↔ (i 1).val = 0 := by
  have h : ∀ (b : Fin 11), Scalar.cmpi .ne (Scalar.extui (Scalar.cmpi .eq (BitVec.ofNat 32 b.val) 0#32)) (0#32 : BitVec 32) = 1#1 ↔ b.val = 0 := by decide
  exact h (i 1)

/-- The unmasked loop runs on every block but the last. -/
theorem cond0_plain (i : grid0.Coords) : k0_cond3 i = 1#1 ↔ (i 0).val ≠ 7 := by
  have h : ∀ (b : Fin 8), Scalar.cmpi .ne (Scalar.extui (Scalar.xori (Scalar.cmpi .eq (BitVec.ofNat 32 b.val) 7#32) 1#1)) (0#32 : BitVec 32) = 1#1 ↔ b.val ≠ 7 := by decide
  exact h (i 0)

/-- The masked loop runs on the last block. -/
theorem cond0_masked (i : grid0.Coords) : k0_cond4 i = 1#1 ↔ (i 0).val = 7 := by
  have h : ∀ (b : Fin 8), Scalar.cmpi .ne (Scalar.extui (Scalar.cmpi .eq (BitVec.ofNat 32 b.val) 7#32)) (0#32 : BitVec 32) = 1#1 ↔ b.val = 7 := by decide
  exact h (i 0)

/-- The body at a point: the thresholds, the block and the labels are left as found, the scratch holds the block's marks, and row
    `k` of each output has the column sums of its running vector added. -/
theorem body0 (𝒱 : Variants) (c : Dev nD) (bd : Option 𝒱.V) (i : grid0.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (X2 : Vec F S1x11 .f32) (X3 : Vec F S1024x1280 .f32) (X4 : Vec F S1024x128 .i32) (X5 X6 X7 : Vec F S11x1280 .f32) (X8 M : Vec F S1024x1280 .f32)
    (hM : M = marksAt (i 1) X4 X8) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8) : sProp (MT nD τ sig Unit (Elt F) ℕ U ℕ))
      ⊢ wp frame (wpE (defs₀ (F := F)) 𝒱 (c : Thread nD τ) bd) E (cc0__part_kernel i arg2 harg2 arg3 harg3 arg4 harg4 arg5 harg5 arg6 harg6 arg7 harg7 arg8 harg8)
          (fun _ => iprop(owns (c : Thread nD τ) arg2 fullShare X2 ∗ owns (c : Thread nD τ) arg3 fullShare X3 ∗ owns (c : Thread nD τ) arg4 fullShare X4
            ∗ owns (c : Thread nD τ) arg5 fullShare (upd (i 1) (point 7812#32 (i 0).val (i 1) X2 X3 M).1 (start (i 0).val (i 1) X5))
            ∗ owns (c : Thread nD τ) arg6 fullShare (upd (i 1) (point 7812#32 (i 0).val (i 1) X2 X3 M).2.1 (start (i 0).val (i 1) X6))
            ∗ owns (c : Thread nD τ) arg7 fullShare (upd (i 1) (point 7812#32 (i 0).val (i 1) X2 X3 M).2.2 (start (i 0).val (i 1) X7))
            ∗ owns (c : Thread nD τ) arg8 fullShare M)) := by
  have c1 := cond0_init i
  have c2 := cond0_prep i
  have c3 := cond0_plain i
  have c4 := cond0_masked i
  subst hM
  rcases em (k0_cond1 i = 1#1) with h1 | h1 <;> rcases em ((Scalar.cmpi .ne (Scalar.extui (Scalar.cmpi .eq (BitVec.ofNat 32 (i 1).val) 0#32)) 0#32 : BitVec 1) = 1#1) with h2 | h2 <;> rcases em (k0_cond3 i = 1#1) with h3 | h3
    <;> rcases em (k0_cond4 i = 1#1) with h4 | h4
  all_goals (have g1 := h1; have g2 : prep0 i = 1#1 ∨ ¬ prep0 i = 1#1 := em _; have g3 := h3; have g4 := h4)
  all_goals (rw [c1] at g1; rw [c2] at g2; rw [c3] at g3; rw [c4] at g4)
  all_goals rcases g2 with g2 | g2
  all_goals first | (exfalso; omega) | exact (h2 (c2.2 g2)).elim | exact (g2 (c2.1 h2)).elim | skip
  all_goals
    rw [cc0__part_kernel_eq_skeleton]
    unfold cc0__part_kernel_skel owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
    have h8 : 8 * Scf.trips k0_t1_loop.lb k0_t1_loop.ub k0_t1_loop.st = 128 := by decide
    have h8' : 8 * Scf.trips k0_t2_loop.lb k0_t2_loop.ub k0_t2_loop.st = 128 := by decide
    have hr : ∀ inb hp, arg2.view.readAt (Elt F) (Rect.unit (s := S1x11) (k0_off1 i) S1x1.size inb).toLoadRect f2 (Shape.Idx.first hp) = X2 (ix2 0 (i 1)) :=
      fun inb hp => (readAt_threshold arg2.view f2 _ inb (i 1) (k0_off1_eq i) hp).trans (by rw [e2])
    have hL : ∀ inb, arg4.view.readAt (Elt F) (Rect.unit (s := S1024x128) ![0, 0] S1024x128.size inb).toLoadRect f4 = X4 :=
      fun inb => by rw [View.readAt_full, e4]
    sl_exec
    sl_step
    isplitl [H2]
    · iexists f2; isplitr
      · ipureintro; exact e2
      · iassumption
    isplitl [H3]
    · iexists f3; isplitr
      · ipureintro; exact e3
      · iassumption
    isplitl [H4]
    · iexists f4; isplitr
      · ipureintro; exact e4
      · iassumption
    isplitl [H5]
    · iexists _
      isplitr [H5]
      swap
      · iassumption
      ipureintro
      refine read_upd_of arg5.view _ _ _ _ _ (i 1) _ _ _ ?_ rfl ?_ ?_
      · first | exact k0_off3_eq i | exact k0_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e5) | (rw [if_pos g1]; exact View.read_writes_full _ _ _ _ _)
    isplitl [H6]
    · iexists _
      isplitr [H6]
      swap
      · iassumption
      ipureintro
      refine read_upd_of arg6.view _ _ _ _ _ (i 1) _ _ _ ?_ rfl ?_ ?_
      · first | exact k0_off3_eq i | exact k0_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e6) | (rw [if_pos g1]; exact View.read_writes_full _ _ _ _ _)
    isplitl [H7]
    · iexists _
      isplitr [H7]
      swap
      · iassumption
      ipureintro
      refine read_upd_of arg7.view _ _ _ _ _ (i 1) _ _ _ ?_ rfl ?_ ?_
      · first | exact k0_off3_eq i | exact k0_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e7) | (rw [if_pos g1]; exact View.read_writes_full _ _ _ _ _)
    iexists _
    isplitr [H8]
    swap
    · iassumption
    ipureintro
    sl_unfold_run_names
    simp only [hL, e8]
    unfold marksAt
    first | (rw [if_pos g2]; exact read_whole (F := F) arg8.view _ _ _ _ (marks X4) rfl) | rw [if_neg g2]

end Cert.KernelIdeal.Part

end
-- ==== Proof.Part.Data0.lean ====
/- Streaming call 0 over its grid: what each window's buffer may hold when a point runs and after it, and that the body keeps to it. -/
module

public import proofs.«01_k».proof.Proof.Part.Body0
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.Pipeline.Regions

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat)

variable {F : FTy → Type} [FloatOps F] {U : Type} [URA U]

/-- What the buffer of window `w` may hold at point `t`: the block of its array there, anything where the block sticks out. -/
def Found0 (c : Dev nD) (W : Valuation τ sig (Elt F)) (w : Fin 6) (t : Fin grid0.N) (X : (cfg0.win w).block.Idx → Elt F (cfg0.win w).elt) : Prop :=
  ∃ d, X = (cfg0.win w).fill (grid0.coords t) d (((cfg0.win w).blk t).view.read (Elt F)
    (W (Proc.devRef .tc (Pipeline.arrRef spec0 w)) : Buf (Elt F) ((cfg0.win w).arr.view.loc (c.tc : Thread nD τ))))

/-- The three running vectors of point `t` on some contents its three operands may hold there. -/
def Sums0 (c : Dev nD) (W : Valuation τ sig (Elt F)) (t : Fin grid0.N) (a : Acc F) : Prop :=
  ∃ (X2 : Vec F S1x11 .f32) (X3 : Vec F S1024x1280 .f32) (X4 : Vec F S1024x128 .i32), Found0 c W 0 t X2 ∧ Found0 c W 1 t X3 ∧ Found0 c W 2 t X4
    ∧ a = point 7812#32 (grid0.coords t 0).val (grid0.coords t 1) X2 X3 (marks X4)

/-- What a point does to an output whose running vector is `p` of the three. -/
def Adds0 (c : Dev nD) (W : Valuation τ sig (Elt F)) (p : Acc F → Vec F S8x1280 .f32) (t : Fin grid0.N) (Y X : Vec F S11x1280 .f32) : Prop :=
  ∃ a, Sums0 c W t a ∧ X = upd (grid0.coords t 1) (p a) (start (grid0.coords t 0).val (grid0.coords t 1) Y)

/-- What each window's buffer may hold after a point: an operand's as found, an output's with the point's sums added. -/
def after0 (c : Dev nD) (W : Valuation τ sig (Elt F)) : (w : Fin 6) → Fin grid0.N → (Y X : (cfg0.win w).block.Idx → Elt F (cfg0.win w).elt) → Prop
  | 0, _, Y, X => X = Y
  | 1, _, Y, X => X = Y
  | 2, _, Y, X => X = Y
  | 3, t, Y, X => Adds0 c W (·.1) t Y X
  | 4, t, Y, X => Adds0 c W (·.2.1) t Y X
  | 5, t, Y, X => Adds0 c W (·.2.2) t Y X
  | ⟨_ + 6, h⟩, _, _, _ => absurd h (Nat.not_lt.2 (Nat.le_add_left _ _))

/-- Before point `n` the scratch holds the marks of the current block, unless the block starts there. -/
def Kept0 (c : Dev nD) (W : Valuation τ sig (Elt F)) (n : ℕ) (X8 : Vec F S1024x1280 .f32) : Prop :=
  ∀ t : Fin grid0.N, t.val = n → (grid0.coords t 1).val ≠ 0 → ∃ X4 : Vec F S1024x128 .i32, Found0 c W 2 t X4 ∧ X8 = marks X4

/-- Streaming call 0's contents, from the unscoped buffers `W` it is entered with. -/
def rd0 (W : Dev nD → Valuation τ sig (Elt F)) (c : Dev nD) : RDat τ (Elt F) Unit ℕ U ℕ cfg0 c where
  A w := W c (Proc.devRef .tc (Pipeline.arrRef spec0 w))
  after := after0 c (W c)
  Φ t := iprop((∃ X8, ⌜Kept0 c (W c) t.val X8⌝ ∗ owns (c : Thread nD τ) (Memref.whole cc0_scratch0) fullShare X8)
    ∗ Pipeline.scopedRestBut spec0 c [cc0_scratch0])
  q _ := fullShare
  owed _ := 0

/-- The point's row-block and threshold numbers. -/
theorem coords0 (t : Fin grid0.N) : (grid0.coords t 0).val = t.val / 11 ∧ (grid0.coords t 1).val = t.val % 11 := by
  have h : ∀ t : Fin grid0.N, (grid0.coords t 0).val = t.val / 11 ∧ (grid0.coords t 1).val = t.val % 11 := by decide +kernel
  exact h t

/-- Where a clipped operand's block is cut is a function of the block's place. -/
theorem cut0 (w : Fin 6) (hw : (cfg0.win w).isOut = false) (t t' : Fin grid0.N) (h : (cfg0.win w).index t = (cfg0.win w).index t') :
    (cfg0.win w).clip (grid0.coords t) = (cfg0.win w).clip (grid0.coords t') := by
  match w, hw, h with
  | 0, _, _ => rfl
  | 1, _, h => exact congrArg (fun ix : Fin 2 → ℕ => fun a => Pipeline.Clip.of (ix a) (S1024x1280.size a) (S7812x1280.size a)) h
  | 2, _, h => exact congrArg (fun ix : Fin 2 → ℕ => fun a => Pipeline.Clip.of (ix a) (S1024x128.size a) (S7812x128.size a)) h
  | 3, hw, _ => exact absurd hw (by decide)
  | 4, hw, _ => exact absurd hw (by decide)
  | 5, hw, _ => exact absurd hw (by decide)

/-- The body leaves an operand's buffer as found. -/
theorem keeps0 (W : Dev nD → Valuation τ sig (Elt F)) (c : Dev nD) (w : Fin 6) (hw : (cfg0.win w).isOut = false) (t : Fin grid0.N)
    (Y X : (cfg0.win w).block.Idx → Elt F (cfg0.win w).elt) (h : (rd0 (U := U) W c).after w t Y X) : X = Y := by
  match w, hw, Y, X, h with
  | 0, _, _, _, h => exact h
  | 1, _, _, _, h => exact h
  | 2, _, _, _, h => exact h
  | 3, hw, _, _, _ => exact absurd hw (by decide)
  | 4, hw, _, _, _ => exact absurd hw (by decide)
  | 5, hw, _, _, _ => exact absurd hw (by decide)

/-- An operand's buffer holds its block whenever a point runs. -/
theorem found0 (W : Dev nD → Valuation τ sig (Elt F)) (c : Dev nD) (w : Fin 6) (hw : (cfg0.win w).isOut = false) (t : Fin grid0.N)
    (Y : (cfg0.win w).block.Idx → Elt F (cfg0.win w).elt) (h : (rd0 (U := U) W c).Finds w t Y) : Found0 c (W c) w t Y :=
  RDat.finds_in_eq_fetched (rd0 W c) w hw (cut0 w hw) (keeps0 W c w hw) t Y h

/-- A block's labels are the same at each of its points. -/
theorem found0_succ (W : Dev nD → Valuation τ sig (Elt F)) (c : Dev nD) (t t' : Fin grid0.N) (ht : t'.val = t.val + 1) (h0 : (grid0.coords t' 1).val ≠ 0)
    (X : Vec F S1024x128 .i32) (h : Found0 c (W c) 2 t X) : Found0 c (W c) 2 t' X := by
  obtain ⟨d, rfl⟩ := h
  have hb : (grid0.coords t 0).val = (grid0.coords t' 0).val := by
    rw [(coords0 t').2] at h0
    rw [(coords0 t).1, (coords0 t').1]; omega
  have hi : (cfg0.win 2).index t = (cfg0.win 2).index t' := by
    show cc0_transform_2 (grid0.coords t) = cc0_transform_2 (grid0.coords t')
    unfold cc0_transform_2
    rw [hb]
  exact ⟨d, RDat.fetched_congr (rd0 (U := Rounds.URounds (GSem nD τ sig) Unit) W c) 2 hi (cut0 2 rfl t t' hi) d⟩

/-- The body at every point. -/
theorem bodyOk0 (𝒱 : Variants) (W : Dev nD → Valuation τ sig (Elt F)) (c : Dev nD) :
    (rd0 (U := U) W c).BodyObligation (defs₀ (F := F)) 𝒱 () Set.univ := by
  intro t Y hY
  have f0 := found0 W c 0 rfl t (Y 0) (hY 0)
  have f1 := found0 W c 1 rfl t (Y 1) (hY 1)
  have f2 := found0 W c 2 rfl t (Y 2) (hY 2)
  rw [bigSep_W0, bigSep_W0]
  show iprop(((∃ X8, ⌜Kept0 c (W c) t.val X8⌝ ∗ owns (c : Thread nD τ) (Memref.whole cc0_scratch0) fullShare X8)
      ∗ Pipeline.scopedRestBut spec0 c [cc0_scratch0]) ∗ (rd0 (U := U) W c).owesAt () t.castSucc ∗ _)
    ⊢ wp frame (wpE (defs₀ (F := F)) 𝒱 (c : Thread nD τ) none) Set.univ (bodyAt0 t) fun _ =>
      iprop(((∃ X8, ⌜Kept0 c (W c) (t.val + 1) X8⌝ ∗ owns (c : Thread nD τ) (Memref.whole cc0_scratch0) fullShare X8)
      ∗ Pipeline.scopedRestBut spec0 c [cc0_scratch0]) ∗ (rd0 (U := U) W c).owesAt () t.castSucc ∗ _)
  iintro ⟨⟨⟨%X8, %hX8, H8⟩, HR⟩, HO, H0, H1, H2, H3, H4, H5⟩
  have hM : ∃ X4, Found0 c (W c) 2 t X4 ∧ marksAt (grid0.coords t 1) (Y 2) X8 = marks X4 := by
    unfold marksAt
    split
    · exact ⟨_, f2, rfl⟩
    · next h => exact hX8 t rfl h
  obtain ⟨X4, f4, hM⟩ := hM
  have hp := body0 (F := F) (U := U) 𝒱 c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _)
    (Y 0) (Y 1) (Y 2) (Y 3) (Y 4) (Y 5) X8 (marks X4) hM.symm Set.univ
  have hs : Sums0 c (W c) t (point 7812#32 (grid0.coords t 0).val (grid0.coords t 1) (Y 0) (Y 1) (marks X4)) := ⟨_, _, _, f0, f1, f4, rfl⟩
  ihave Hw := hp $$ [H0 H1 H2 H3 H4 H5 H8]
  · isplitl [H0]; · iexact H0
    isplitl [H1]; · iexact H1
    isplitl [H2]; · iexact H2
    isplitl [H3]; · iexact H3
    isplitl [H4]; · iexact H4
    isplitl [H5]; · iexact H5
    iexact H8
  iapply (wp_wand frame (wpE (defs₀ (F := F)) 𝒱 (c : Thread nD τ) none) Set.univ) $$ [Hw]
  · iexact Hw
  iintro %_ ⟨H0, H1, H2, H3, H4, H5, H8⟩
  isplitl [H8 HR]
  · isplitl [H8]
    · iexists (marks X4)
      isplitr
      · ipureintro
        exact fun t' ht' h0 => ⟨X4, found0_succ _ _ t t' ht' h0 X4 f4, rfl⟩
      · iexact H8
    · iexact HR
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact ⟨_, hs, rfl⟩
  isplitl [H4]
  · iexists _; isplitr; swap; · iexact H4
    ipureintro; exact ⟨_, hs, rfl⟩
  iexists _; isplitr; swap; · iexact H5
  ipureintro; exact ⟨_, hs, rfl⟩

end Cert.KernelIdeal.Part

end
-- ==== Proof.Part.Trip1.lean ====
/-
  The two loops of a streaming call, one trip at a time: an unmasked trip of eight chunks and a masked one (the last block,
  whose rows past the array's end count as zeros), each with the invariant that carries it through the loop.
-/
module

public import proofs.«01_k».proof.Proof.Part.Rows

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

/-- How many rows of the array are left at the block a point works on. -/
abbrev lim1 (i : grid1.Coords) : BitVec 32 := Scalar.subi 7813#32 (Scalar.muli (BitVec.ofNat 32 (i 0).val) 1024#32)

/-- One trip of an unmasked loop: the running vectors before it are those after `8 k` chunks, and after it those after `8 (k + 1)`. -/
theorem trip1_plain (𝒱 : Variants) (c : Dev nD) (bd : Option 𝒱.V) (i : grid1.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k1_cond3 i = 1#1) (X3 : BufTy.Contents (Elt F) arg3.view.ty) (X8 : BufTy.Contents (Elt F) arg8.view.ty) (k : Fin k1_t1_loop.trips) (E : Set ℕ) :
    (iprop((arg3.view.loc (c : Thread nD τ) ↦[arg3.view.set]{fullShare} X3) ∗ (arg8.view.loc (c : Thread nD τ) ↦[arg8.view.set]{fullShare} X8)) : sProp (MT nD τ sig Unit (Elt F) ℕ U ℕ))
      ⊢ wp frame (wpE (defs₀ (F := F)) 𝒱 (c : Thread nD τ) bd) E (k1_t1_body (F := F) i arg2 harg2 arg3 harg3 arg4 harg4 arg5 harg5 arg6 harg6 arg7 harg7 arg8 harg8 e h k (acc e (rows (arg3.view.read (Elt F) X3)) (rows (arg8.view.read (Elt F) X8)) (8 * k.val)))
          (fun yld => iprop((arg3.view.loc (c : Thread nD τ) ↦[arg3.view.set]{fullShare} X3) ∗ (arg8.view.loc (c : Thread nD τ) ↦[arg8.view.set]{fullShare} X8)
            ∗ ⌜yld = (acc e (rows (arg3.view.read (Elt F) X3)) (rows (arg8.view.read (Elt F) X8)) (8 * (k.val + 1)))⌝)) := by
    have hk : k.val < 16 := Nat.lt_of_lt_of_le k.isLt k1_t1_abs.2.1
    generalize hA : (acc e (rows (arg3.view.read (Elt F) X3)) (rows (arg8.view.read (Elt F) X8)) (8 * k.val)) = A
    unfold k1_t1_body
    iintro ⟨HR_arg3, HR_arg8⟩
    sl_exec
    sl_step
    isplitl [HR_arg3]; · iassumption
    isplitl [HR_arg8]; · iassumption
    ipureintro
    have hoff : ∀ r : Fin 8, k1_off2 k (BitVec.ofNat 32 r.val) = ![8 * (8 * k.val + r.val), 0] := fun r => by
      rw [k1_off2_eq]; congr 1; omega
    have hr3 : ∀ (r : Fin 8) inb, arg3.view.readAt (Elt F) (Rect.unit (s := S1024x1280) (k1_off2 k (BitVec.ofNat 32 r.val)) S8x1280.size inb).toLoadRect X3
        = rows (arg3.view.read (Elt F) X3) (8 * k.val + r.val) := fun r inb => readAt_rows _ _ _ inb _ (hoff r)
    have hr8 : ∀ (r : Fin 8) inb, arg8.view.readAt (Elt F) (Rect.unit (s := S1024x1280) (k1_off2 k (BitVec.ofNat 32 r.val)) S8x1280.size inb).toLoadRect X8
        = rows (arg8.view.read (Elt F) X8) (8 * k.val + r.val) := fun r inb => readAt_rows _ _ _ inb _ (hoff r)
    rw [show 8 * (k.val + 1) = 8 * k.val + 8 by omega, acc_add8, hA]
    sl_unfold_run_names
    unfold_payloads
    simp only [shapeCast_self, hr3 ⟨0, by decide⟩, hr3 ⟨1, by decide⟩, hr3 ⟨2, by decide⟩, hr3 ⟨3, by decide⟩, hr3 ⟨4, by decide⟩, hr3 ⟨5, by decide⟩, hr3 ⟨6, by decide⟩, hr3 ⟨7, by decide⟩, hr8 ⟨0, by decide⟩, hr8 ⟨1, by decide⟩, hr8 ⟨2, by decide⟩, hr8 ⟨3, by decide⟩, hr8 ⟨4, by decide⟩, hr8 ⟨5, by decide⟩, hr8 ⟨6, by decide⟩, hr8 ⟨7, by decide⟩]
    rfl

/-- The loop's invariant: before trip `k` the running vectors are those after `8 k` chunks. -/
@[sl_loop] def loop1_plain (𝒱 : Variants) (c : Dev nD) (bd : Option 𝒱.V) (E : Set ℕ) (i : grid1.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k1_cond3 i = 1#1) (X3 : BufTy.Contents (Elt F) arg3.view.ty) (X8 : BufTy.Contents (Elt F) arg8.view.ty) :
    LoopInvTy_k1_t1 (F := F) Unit ℕ U ℕ 𝒱 c bd E i arg2 harg2 arg3 harg3 arg4 harg4 arg5 harg5 arg6 harg6 arg7 harg7 arg8 harg8 e h
      (k1_pay5 (F := F), k1_pay5 (F := F), k1_pay5 (F := F)) where
  inv := fun k a => iprop((arg3.view.loc (c : Thread nD τ) ↦[arg3.view.set]{fullShare} X3) ∗ (arg8.view.loc (c : Thread nD τ) ↦[arg8.view.set]{fullShare} X8)
    ∗ ⌜a = (acc e (rows (arg3.view.read (Elt F) X3)) (rows (arg8.view.read (Elt F) X8)) (8 * k))⌝)
  step k a := by
    iintro ⟨H3, H8, %ha⟩
    subst ha
    iapply (trip1_plain 𝒱 c bd i arg2 harg2 arg3 harg3 arg4 harg4 arg5 harg5 arg6 harg6 arg7 harg7 arg8 harg8 e h X3 X8 k E)
    isplitl [H3] <;> iassumption

/-- One trip of a masked loop: the running vectors before it are those after `8 k` chunks, and after it those after `8 (k + 1)`. -/
theorem trip1_masked (𝒱 : Variants) (c : Dev nD) (bd : Option 𝒱.V) (i : grid1.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k1_cond4 i = 1#1) (X3 : BufTy.Contents (Elt F) arg3.view.ty) (X8 : BufTy.Contents (Elt F) arg8.view.ty) (k : Fin k1_t2_loop.trips) (E : Set ℕ) :
    (iprop((arg3.view.loc (c : Thread nD τ) ↦[arg3.view.set]{fullShare} X3) ∗ (arg8.view.loc (c : Thread nD τ) ↦[arg8.view.set]{fullShare} X8)) : sProp (MT nD τ sig Unit (Elt F) ℕ U ℕ))
      ⊢ wp frame (wpE (defs₀ (F := F)) 𝒱 (c : Thread nD τ) bd) E (k1_t2_body (F := F) i arg2 harg2 arg3 harg3 arg4 harg4 arg5 harg5 arg6 harg6 arg7 harg7 arg8 harg8 e (lim1 i) (iota .tc S8x1280 32 [0] iota_S8x1280_d0_w32) h k (acc e (mrows (lim1 i) (arg3.view.read (Elt F) X3)) (rows (arg8.view.read (Elt F) X8)) (8 * k.val)))
          (fun yld => iprop((arg3.view.loc (c : Thread nD τ) ↦[arg3.view.set]{fullShare} X3) ∗ (arg8.view.loc (c : Thread nD τ) ↦[arg8.view.set]{fullShare} X8)
            ∗ ⌜yld = (acc e (mrows (lim1 i) (arg3.view.read (Elt F) X3)) (rows (arg8.view.read (Elt F) X8)) (8 * (k.val + 1)))⌝)) := by
    have hk : k.val < 16 := Nat.lt_of_lt_of_le k.isLt k1_t2_abs.2.1
    generalize hA : (acc e (mrows (lim1 i) (arg3.view.read (Elt F) X3)) (rows (arg8.view.read (Elt F) X8)) (8 * k.val)) = A
    unfold k1_t2_body
    iintro ⟨HR_arg3, HR_arg8⟩
    sl_exec
    sl_step
    isplitl [HR_arg3]; · iassumption
    isplitl [HR_arg8]; · iassumption
    ipureintro
    have hoff : ∀ r : Fin 8, k1_off4 k (BitVec.ofNat 32 r.val) = ![8 * (8 * k.val + r.val), 0] := fun r => by
      rw [k1_off4_eq]; congr 1; omega
    have hr3 : ∀ (r : Fin 8) inb, arg3.view.readAt (Elt F) (Rect.unit (s := S1024x1280) (k1_off4 k (BitVec.ofNat 32 r.val)) S8x1280.size inb).toLoadRect X3
        = rows (arg3.view.read (Elt F) X3) (8 * k.val + r.val) := fun r inb => readAt_rows _ _ _ inb _ (hoff r)
    have hr8 : ∀ (r : Fin 8) inb, arg8.view.readAt (Elt F) (Rect.unit (s := S1024x1280) (k1_off4 k (BitVec.ofNat 32 r.val)) S8x1280.size inb).toLoadRect X8
        = rows (arg8.view.read (Elt F) X8) (8 * k.val + r.val) := fun r inb => readAt_rows _ _ _ inb _ (hoff r)
    have hb : ∀ r : Fin 8, Scalar.muli (Scalar.addi (Scalar.muli (Scf.iv 0#32 1#32 k.val) 8#32) (BitVec.ofNat 32 r.val)) 8#32 = BitVec.ofNat 32 (8 * (8 * k.val + r.val)) :=
      fun r => base_word ⟨k.val, hk⟩ r
    rw [show 8 * (k.val + 1) = 8 * k.val + 8 by omega, acc_add8, hA]
    sl_unfold_run_names
    unfold_payloads
    simp only [shapeCast_self, hr3 ⟨0, by decide⟩, hr3 ⟨1, by decide⟩, hr3 ⟨2, by decide⟩, hr3 ⟨3, by decide⟩, hr3 ⟨4, by decide⟩, hr3 ⟨5, by decide⟩, hr3 ⟨6, by decide⟩, hr3 ⟨7, by decide⟩, hr8 ⟨0, by decide⟩, hr8 ⟨1, by decide⟩, hr8 ⟨2, by decide⟩, hr8 ⟨3, by decide⟩, hr8 ⟨4, by decide⟩, hr8 ⟨5, by decide⟩, hr8 ⟨6, by decide⟩, hr8 ⟨7, by decide⟩]
    have b0 := hb ⟨0, by decide⟩; have b1 := hb ⟨1, by decide⟩; have b2 := hb ⟨2, by decide⟩; have b3 := hb ⟨3, by decide⟩
    have b4 := hb ⟨4, by decide⟩; have b5 := hb ⟨5, by decide⟩; have b6 := hb ⟨6, by decide⟩; have b7 := hb ⟨7, by decide⟩
    simp only at b0 b1 b2 b3 b4 b5 b6 b7
    simp only [b0, b1, b2, b3, b4, b5, b6, b7]
    rfl

/-- The loop's invariant: before trip `k` the running vectors are those after `8 k` chunks. -/
@[sl_loop] def loop1_masked (𝒱 : Variants) (c : Dev nD) (bd : Option 𝒱.V) (E : Set ℕ) (i : grid1.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (e : Elt F .f32) (h : k1_cond4 i = 1#1) (X3 : BufTy.Contents (Elt F) arg3.view.ty) (X8 : BufTy.Contents (Elt F) arg8.view.ty) :
    LoopInvTy_k1_t2 (F := F) Unit ℕ U ℕ 𝒱 c bd E i arg2 harg2 arg3 harg3 arg4 harg4 arg5 harg5 arg6 harg6 arg7 harg7 arg8 harg8 e (lim1 i) (iota .tc S8x1280 32 [0] iota_S8x1280_d0_w32) h
      (k1_pay5 (F := F), k1_pay5 (F := F), k1_pay5 (F := F)) where
  inv := fun k a => iprop((arg3.view.loc (c : Thread nD τ) ↦[arg3.view.set]{fullShare} X3) ∗ (arg8.view.loc (c : Thread nD τ) ↦[arg8.view.set]{fullShare} X8)
    ∗ ⌜a = (acc e (mrows (lim1 i) (arg3.view.read (Elt F) X3)) (rows (arg8.view.read (Elt F) X8)) (8 * k))⌝)
  step k a := by
    iintro ⟨H3, H8, %ha⟩
    subst ha
    iapply (trip1_masked 𝒱 c bd i arg2 harg2 arg3 harg3 arg4 harg4 arg5 harg5 arg6 harg6 arg7 harg7 arg8 harg8 e h X3 X8 k E)
    isplitl [H3] <;> iassumption

end Cert.KernelIdeal.Part

end
-- ==== Proof.Part.Body1.lean ====
/-
  The whole body of streaming call 1 at one grid point: from its windows' blocks and the scratch, what the three outputs and
  the scratch hold afterwards.
-/
module

public import proofs.«01_k».proof.Proof.Part.Trip1

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

/-- The outputs are zeroed at the first point only. -/
theorem cond1_init (i : grid1.Coords) : k1_cond1 i = 1#1 ↔ (i 0).val = 0 ∧ (i 1).val = 0 := by
  have h : ∀ (a : Fin 8) (b : Fin 11), Scalar.cmpi .ne (Scalar.extui (Scalar.andi (Scalar.cmpi .eq (BitVec.ofNat 32 a.val) 0#32) (Scalar.cmpi .eq (BitVec.ofNat 32 b.val) 0#32))) (0#32) = 1#1 ↔ a.val = 0 ∧ b.val = 0 := by decide
  exact h (i 0) (i 1)

/-- The condition under which a point prepares its marks. -/
abbrev prep1 (i : grid1.Coords) : BitVec 1 := Scalar.cmpi .ne (Scalar.extui (Scalar.cmpi .eq (BitVec.ofNat 32 (i 1).val) 0#32)) (0#32 : BitVec 32)

/-- The marks are prepared at a block's first threshold. -/
theorem cond1_prep (i : grid1.Coords) : prep1 i = 1#1 ↔ (i 1).val = 0 := by
  have h : ∀ (b : Fin 11), Scalar.cmpi .ne (Scalar.extui (Scalar.cmpi .eq (BitVec.ofNat 32 b.val) 0#32)) (0#32 : BitVec 32) = 1#1 ↔ b.val = 0 := by decide
  exact h (i 1)

/-- The unmasked loop runs on every block but the last. -/
theorem cond1_plain (i : grid1.Coords) : k1_cond3 i = 1#1 ↔ (i 0).val ≠ 7 := by
  have h : ∀ (b : Fin 8), Scalar.cmpi .ne (Scalar.extui (Scalar.xori (Scalar.cmpi .eq (BitVec.ofNat 32 b.val) 7#32) 1#1)) (0#32 : BitVec 32) = 1#1 ↔ b.val ≠ 7 := by decide
  exact h (i 0)

/-- The masked loop runs on the last block. -/
theorem cond1_masked (i : grid1.Coords) : k1_cond4 i = 1#1 ↔ (i 0).val = 7 := by
  have h : ∀ (b : Fin 8), Scalar.cmpi .ne (Scalar.extui (Scalar.cmpi .eq (BitVec.ofNat 32 b.val) 7#32)) (0#32 : BitVec 32) = 1#1 ↔ b.val = 7 := by decide
  exact h (i 0)

/-- The body at a point: the thresholds, the block and the labels are left as found, the scratch holds the block's marks, and row
    `k` of each output has the column sums of its running vector added. -/
theorem body1 (𝒱 : Variants) (c : Dev nD) (bd : Option 𝒱.V) (i : grid1.Coords) (arg2 : Memref sig .tc .smem S1x11 .f32) (harg2 : arg2.IsWhole) (arg3 : Memref sig .tc .vmem S1024x1280 .f32) (harg3 : arg3.IsWhole) (arg4 : Memref sig .tc .vmem S1024x128 .i32) (harg4 : arg4.IsWhole)
    (arg5 : Memref sig .tc .vmem S11x1280 .f32) (harg5 : arg5.IsWhole) (arg6 : Memref sig .tc .vmem S11x1280 .f32) (harg6 : arg6.IsWhole) (arg7 : Memref sig .tc .vmem S11x1280 .f32) (harg7 : arg7.IsWhole)
    (arg8 : Memref sig .tc .vmem S1024x1280 .f32) (harg8 : arg8.IsWhole)
    (X2 : Vec F S1x11 .f32) (X3 : Vec F S1024x1280 .f32) (X4 : Vec F S1024x128 .i32) (X5 X6 X7 : Vec F S11x1280 .f32) (X8 M : Vec F S1024x1280 .f32)
    (hM : M = marksAt (i 1) X4 X8) (E : Set ℕ) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8) : sProp (MT nD τ sig Unit (Elt F) ℕ U ℕ))
      ⊢ wp frame (wpE (defs₀ (F := F)) 𝒱 (c : Thread nD τ) bd) E (cc1__part_kernel i arg2 harg2 arg3 harg3 arg4 harg4 arg5 harg5 arg6 harg6 arg7 harg7 arg8 harg8)
          (fun _ => iprop(owns (c : Thread nD τ) arg2 fullShare X2 ∗ owns (c : Thread nD τ) arg3 fullShare X3 ∗ owns (c : Thread nD τ) arg4 fullShare X4
            ∗ owns (c : Thread nD τ) arg5 fullShare (upd (i 1) (point 7813#32 (i 0).val (i 1) X2 X3 M).1 (start (i 0).val (i 1) X5))
            ∗ owns (c : Thread nD τ) arg6 fullShare (upd (i 1) (point 7813#32 (i 0).val (i 1) X2 X3 M).2.1 (start (i 0).val (i 1) X6))
            ∗ owns (c : Thread nD τ) arg7 fullShare (upd (i 1) (point 7813#32 (i 0).val (i 1) X2 X3 M).2.2 (start (i 0).val (i 1) X7))
            ∗ owns (c : Thread nD τ) arg8 fullShare M)) := by
  have c1 := cond1_init i
  have c2 := cond1_prep i
  have c3 := cond1_plain i
  have c4 := cond1_masked i
  subst hM
  rcases em (k1_cond1 i = 1#1) with h1 | h1 <;> rcases em ((Scalar.cmpi .ne (Scalar.extui (Scalar.cmpi .eq (BitVec.ofNat 32 (i 1).val) 0#32)) 0#32 : BitVec 1) = 1#1) with h2 | h2 <;> rcases em (k1_cond3 i = 1#1) with h3 | h3
    <;> rcases em (k1_cond4 i = 1#1) with h4 | h4
  all_goals (have g1 := h1; have g2 : prep1 i = 1#1 ∨ ¬ prep1 i = 1#1 := em _; have g3 := h3; have g4 := h4)
  all_goals (rw [c1] at g1; rw [c2] at g2; rw [c3] at g3; rw [c4] at g4)
  all_goals rcases g2 with g2 | g2
  all_goals first | (exfalso; omega) | exact (h2 (c2.2 g2)).elim | exact (g2 (c2.1 h2)).elim | skip
  all_goals
    rw [cc1__part_kernel_eq_skeleton]
    unfold cc1__part_kernel_skel owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
    have h8 : 8 * Scf.trips k1_t1_loop.lb k1_t1_loop.ub k1_t1_loop.st = 128 := by decide
    have h8' : 8 * Scf.trips k1_t2_loop.lb k1_t2_loop.ub k1_t2_loop.st = 128 := by decide
    have hr : ∀ inb hp, arg2.view.readAt (Elt F) (Rect.unit (s := S1x11) (k1_off1 i) S1x1.size inb).toLoadRect f2 (Shape.Idx.first hp) = X2 (ix2 0 (i 1)) :=
      fun inb hp => (readAt_threshold arg2.view f2 _ inb (i 1) (k1_off1_eq i) hp).trans (by rw [e2])
    have hL : ∀ inb, arg4.view.readAt (Elt F) (Rect.unit (s := S1024x128) ![0, 0] S1024x128.size inb).toLoadRect f4 = X4 :=
      fun inb => by rw [View.readAt_full, e4]
    sl_exec
    sl_step
    isplitl [H2]
    · iexists f2; isplitr
      · ipureintro; exact e2
      · iassumption
    isplitl [H3]
    · iexists f3; isplitr
      · ipureintro; exact e3
      · iassumption
    isplitl [H4]
    · iexists f4; isplitr
      · ipureintro; exact e4
      · iassumption
    isplitl [H5]
    · iexists _
      isplitr [H5]
      swap
      · iassumption
      ipureintro
      refine read_upd_of arg5.view _ _ _ _ _ (i 1) _ _ _ ?_ rfl ?_ ?_
      · first | exact k1_off3_eq i | exact k1_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e5) | (rw [if_pos g1]; exact View.read_writes_full _ _ _ _ _)
    isplitl [H6]
    · iexists _
      isplitr [H6]
      swap
      · iassumption
      ipureintro
      refine read_upd_of arg6.view _ _ _ _ _ (i 1) _ _ _ ?_ rfl ?_ ?_
      · first | exact k1_off3_eq i | exact k1_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e6) | (rw [if_pos g1]; exact View.read_writes_full _ _ _ _ _)
    isplitl [H7]
    · iexists _
      isplitr [H7]
      swap
      · iassumption
      ipureintro
      refine read_upd_of arg7.view _ _ _ _ _ (i 1) _ _ _ ?_ rfl ?_ ?_
      · first | exact k1_off3_eq i | exact k1_off5_eq i
      · sl_unfold_run_names
        simp only [hr, h8, h8', e3, e8, hL]
        unfold point marksAt
        first | rw [if_pos g4] | rw [if_neg g4]
        first | (rw [if_pos g2]; generalize hY : View.read (Elt F) arg8.view (arg8.view.writes (Elt F) arg8.view.junk _) = Y; obtain rfl : Y = marks X4 := hY.symm.trans (read_whole (F := F) arg8.view _ _ _ _ (marks X4) rfl); rfl) | rw [if_neg g2]
      · unfold start
        first | (rw [if_neg g1]; exact e7) | (rw [if_pos g1]; exact View.read_writes_full _ _ _ _ _)
    iexists _
    isplitr [H8]
    swap
    · iassumption
    ipureintro
    sl_unfold_run_names
    simp only [hL, e8]
    unfold marksAt
    first | (rw [if_pos g2]; exact read_whole (F := F) arg8.view _ _ _ _ (marks X4) rfl) | rw [if_neg g2]

end Cert.KernelIdeal.Part

end
-- ==== Proof.Part.Data1.lean ====
/- Streaming call 1 over its grid: what each window's buffer may hold when a point runs and after it, and that the body keeps to it. -/
module

public import proofs.«01_k».proof.Proof.Part.Body1
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.Pipeline.Regions

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat)

variable {F : FTy → Type} [FloatOps F] {U : Type} [URA U]

/-- What the buffer of window `w` may hold at point `t`: the block of its array there, anything where the block sticks out. -/
def Found1 (c : Dev nD) (W : Valuation τ sig (Elt F)) (w : Fin 6) (t : Fin grid1.N) (X : (cfg1.win w).block.Idx → Elt F (cfg1.win w).elt) : Prop :=
  ∃ d, X = (cfg1.win w).fill (grid1.coords t) d (((cfg1.win w).blk t).view.read (Elt F)
    (W (Proc.devRef .tc (Pipeline.arrRef spec1 w)) : Buf (Elt F) ((cfg1.win w).arr.view.loc (c.tc : Thread nD τ))))

/-- The three running vectors of point `t` on some contents its three operands may hold there. -/
def Sums1 (c : Dev nD) (W : Valuation τ sig (Elt F)) (t : Fin grid1.N) (a : Acc F) : Prop :=
  ∃ (X2 : Vec F S1x11 .f32) (X3 : Vec F S1024x1280 .f32) (X4 : Vec F S1024x128 .i32), Found1 c W 0 t X2 ∧ Found1 c W 1 t X3 ∧ Found1 c W 2 t X4
    ∧ a = point 7813#32 (grid1.coords t 0).val (grid1.coords t 1) X2 X3 (marks X4)

/-- What a point does to an output whose running vector is `p` of the three. -/
def Adds1 (c : Dev nD) (W : Valuation τ sig (Elt F)) (p : Acc F → Vec F S8x1280 .f32) (t : Fin grid1.N) (Y X : Vec F S11x1280 .f32) : Prop :=
  ∃ a, Sums1 c W t a ∧ X = upd (grid1.coords t 1) (p a) (start (grid1.coords t 0).val (grid1.coords t 1) Y)

/-- What each window's buffer may hold after a point: an operand's as found, an output's with the point's sums added. -/
def after1 (c : Dev nD) (W : Valuation τ sig (Elt F)) : (w : Fin 6) → Fin grid1.N → (Y X : (cfg1.win w).block.Idx → Elt F (cfg1.win w).elt) → Prop
  | 0, _, Y, X => X = Y
  | 1, _, Y, X => X = Y
  | 2, _, Y, X => X = Y
  | 3, t, Y, X => Adds1 c W (·.1) t Y X
  | 4, t, Y, X => Adds1 c W (·.2.1) t Y X
  | 5, t, Y, X => Adds1 c W (·.2.2) t Y X
  | ⟨_ + 6, h⟩, _, _, _ => absurd h (Nat.not_lt.2 (Nat.le_add_left _ _))

/-- Before point `n` the scratch holds the marks of the current block, unless the block starts there. -/
def Kept1 (c : Dev nD) (W : Valuation τ sig (Elt F)) (n : ℕ) (X8 : Vec F S1024x1280 .f32) : Prop :=
  ∀ t : Fin grid1.N, t.val = n → (grid1.coords t 1).val ≠ 0 → ∃ X4 : Vec F S1024x128 .i32, Found1 c W 2 t X4 ∧ X8 = marks X4

/-- Streaming call 1's contents, from the unscoped buffers `W` it is entered with. -/
def rd1 (W : Dev nD → Valuation τ sig (Elt F)) (c : Dev nD) : RDat τ (Elt F) Unit ℕ U ℕ cfg1 c where
  A w := W c (Proc.devRef .tc (Pipeline.arrRef spec1 w))
  after := after1 c (W c)
  Φ t := iprop((∃ X8, ⌜Kept1 c (W c) t.val X8⌝ ∗ owns (c : Thread nD τ) (Memref.whole cc1_scratch0) fullShare X8)
    ∗ Pipeline.scopedRestBut spec1 c [cc1_scratch0])
  q _ := fullShare
  owed _ := 0

/-- The point's row-block and threshold numbers. -/
theorem coords1 (t : Fin grid1.N) : (grid1.coords t 0).val = t.val / 11 ∧ (grid1.coords t 1).val = t.val % 11 := by
  have h : ∀ t : Fin grid1.N, (grid1.coords t 0).val = t.val / 11 ∧ (grid1.coords t 1).val = t.val % 11 := by decide +kernel
  exact h t

/-- Where a clipped operand's block is cut is a function of the block's place. -/
theorem cut1 (w : Fin 6) (hw : (cfg1.win w).isOut = false) (t t' : Fin grid1.N) (h : (cfg1.win w).index t = (cfg1.win w).index t') :
    (cfg1.win w).clip (grid1.coords t) = (cfg1.win w).clip (grid1.coords t') := by
  match w, hw, h with
  | 0, _, _ => rfl
  | 1, _, h => exact congrArg (fun ix : Fin 2 → ℕ => fun a => Pipeline.Clip.of (ix a) (S1024x1280.size a) (S7813x1280.size a)) h
  | 2, _, h => exact congrArg (fun ix : Fin 2 → ℕ => fun a => Pipeline.Clip.of (ix a) (S1024x128.size a) (S7813x128.size a)) h
  | 3, hw, _ => exact absurd hw (by decide)
  | 4, hw, _ => exact absurd hw (by decide)
  | 5, hw, _ => exact absurd hw (by decide)

/-- The body leaves an operand's buffer as found. -/
theorem keeps1 (W : Dev nD → Valuation τ sig (Elt F)) (c : Dev nD) (w : Fin 6) (hw : (cfg1.win w).isOut = false) (t : Fin grid1.N)
    (Y X : (cfg1.win w).block.Idx → Elt F (cfg1.win w).elt) (h : (rd1 (U := U) W c).after w t Y X) : X = Y := by
  match w, hw, Y, X, h with
  | 0, _, _, _, h => exact h
  | 1, _, _, _, h => exact h
  | 2, _, _, _, h => exact h
  | 3, hw, _, _, _ => exact absurd hw (by decide)
  | 4, hw, _, _, _ => exact absurd hw (by decide)
  | 5, hw, _, _, _ => exact absurd hw (by decide)

/-- An operand's buffer holds its block whenever a point runs. -/
theorem found1 (W : Dev nD → Valuation τ sig (Elt F)) (c : Dev nD) (w : Fin 6) (hw : (cfg1.win w).isOut = false) (t : Fin grid1.N)
    (Y : (cfg1.win w).block.Idx → Elt F (cfg1.win w).elt) (h : (rd1 (U := U) W c).Finds w t Y) : Found1 c (W c) w t Y :=
  RDat.finds_in_eq_fetched (rd1 W c) w hw (cut1 w hw) (keeps1 W c w hw) t Y h

/-- A block's labels are the same at each of its points. -/
theorem found1_succ (W : Dev nD → Valuation τ sig (Elt F)) (c : Dev nD) (t t' : Fin grid1.N) (ht : t'.val = t.val + 1) (h0 : (grid1.coords t' 1).val ≠ 0)
    (X : Vec F S1024x128 .i32) (h : Found1 c (W c) 2 t X) : Found1 c (W c) 2 t' X := by
  obtain ⟨d, rfl⟩ := h
  have hb : (grid1.coords t 0).val = (grid1.coords t' 0).val := by
    rw [(coords1 t').2] at h0
    rw [(coords1 t).1, (coords1 t').1]; omega
  have hi : (cfg1.win 2).index t = (cfg1.win 2).index t' := by
    show cc1_transform_2 (grid1.coords t) = cc1_transform_2 (grid1.coords t')
    unfold cc1_transform_2
    rw [hb]
  exact ⟨d, RDat.fetched_congr (rd1 (U := Rounds.URounds (GSem nD τ sig) Unit) W c) 2 hi (cut1 2 rfl t t' hi) d⟩

/-- The body at every point. -/
theorem bodyOk1 (𝒱 : Variants) (W : Dev nD → Valuation τ sig (Elt F)) (c : Dev nD) :
    (rd1 (U := U) W c).BodyObligation (defs₀ (F := F)) 𝒱 () Set.univ := by
  intro t Y hY
  have f0 := found1 W c 0 rfl t (Y 0) (hY 0)
  have f1 := found1 W c 1 rfl t (Y 1) (hY 1)
  have f2 := found1 W c 2 rfl t (Y 2) (hY 2)
  rw [bigSep_W1, bigSep_W1]
  show iprop(((∃ X8, ⌜Kept1 c (W c) t.val X8⌝ ∗ owns (c : Thread nD τ) (Memref.whole cc1_scratch0) fullShare X8)
      ∗ Pipeline.scopedRestBut spec1 c [cc1_scratch0]) ∗ (rd1 (U := U) W c).owesAt () t.castSucc ∗ _)
    ⊢ wp frame (wpE (defs₀ (F := F)) 𝒱 (c : Thread nD τ) none) Set.univ (bodyAt1 t) fun _ =>
      iprop(((∃ X8, ⌜Kept1 c (W c) (t.val + 1) X8⌝ ∗ owns (c : Thread nD τ) (Memref.whole cc1_scratch0) fullShare X8)
      ∗ Pipeline.scopedRestBut spec1 c [cc1_scratch0]) ∗ (rd1 (U := U) W c).owesAt () t.castSucc ∗ _)
  iintro ⟨⟨⟨%X8, %hX8, H8⟩, HR⟩, HO, H0, H1, H2, H3, H4, H5⟩
  have hM : ∃ X4, Found1 c (W c) 2 t X4 ∧ marksAt (grid1.coords t 1) (Y 2) X8 = marks X4 := by
    unfold marksAt
    split
    · exact ⟨_, f2, rfl⟩
    · next h => exact hX8 t rfl h
  obtain ⟨X4, f4, hM⟩ := hM
  have hp := body1 (F := F) (U := U) 𝒱 c none (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _)
    (Y 0) (Y 1) (Y 2) (Y 3) (Y 4) (Y 5) X8 (marks X4) hM.symm Set.univ
  have hs : Sums1 c (W c) t (point 7813#32 (grid1.coords t 0).val (grid1.coords t 1) (Y 0) (Y 1) (marks X4)) := ⟨_, _, _, f0, f1, f4, rfl⟩
  ihave Hw := hp $$ [H0 H1 H2 H3 H4 H5 H8]
  · isplitl [H0]; · iexact H0
    isplitl [H1]; · iexact H1
    isplitl [H2]; · iexact H2
    isplitl [H3]; · iexact H3
    isplitl [H4]; · iexact H4
    isplitl [H5]; · iexact H5
    iexact H8
  iapply (wp_wand frame (wpE (defs₀ (F := F)) 𝒱 (c : Thread nD τ) none) Set.univ) $$ [Hw]
  · iexact Hw
  iintro %_ ⟨H0, H1, H2, H3, H4, H5, H8⟩
  isplitl [H8 HR]
  · isplitl [H8]
    · iexists (marks X4)
      isplitr
      · ipureintro
        exact fun t' ht' h0 => ⟨X4, found1_succ _ _ t t' ht' h0 X4 f4, rfl⟩
      · iexact H8
    · iexact HR
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact ⟨_, hs, rfl⟩
  isplitl [H4]
  · iexists _; isplitr; swap; · iexact H4
    ipureintro; exact ⟨_, hs, rfl⟩
  iexists _; isplitr; swap; · iexact H5
  ipureintro; exact ⟨_, hs, rfl⟩

end Cert.KernelIdeal.Part

end
-- ==== Proof.Part.Body2.lean ====
/- The closing kernel: it reads the two halves' counts, probability sums and match sums, and stores one number. -/
module

public import proofs.«01_k».proof.Proof.Part.Rows
public import proofs.«01_k».proof.Proof.Gen.KernelIdeal.Points

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

/-- What the closing kernel stores, of the six arrays it reads. -/
def closing (X0 X1 X2 X3 X4 X5 : Vec F S11x1280 .f32) : Vec F S1x1 .f32 :=
  k2_pay1 (k2_pay2 X0 X3) (k2_pay3 X1 X4) (k2_pay4 X2 X5) k2_pay5 (iota .tc S1280x16 32 [1] iota_S1280x16_d1_w32)

/-- The closing kernel leaves its operands as found and its result at `closing` of them. -/
theorem body2 (𝒱 : Variants) (c : Dev nD) (bd : Option 𝒱.V) (arg0 : Memref sig .tc .vmem S11x1280 .f32) (harg0 : arg0.IsWhole) (arg1 : Memref sig .tc .vmem S11x1280 .f32) (harg1 : arg1.IsWhole) (arg2 : Memref sig .tc .vmem S11x1280 .f32) (harg2 : arg2.IsWhole) (arg3 : Memref sig .tc .vmem S11x1280 .f32) (harg3 : arg3.IsWhole) (arg4 : Memref sig .tc .vmem S11x1280 .f32) (harg4 : arg4.IsWhole) (arg5 : Memref sig .tc .vmem S11x1280 .f32) (harg5 : arg5.IsWhole) (arg6 : Memref sig .tc .vmem S1x1 .f32) (harg6 : arg6.IsWhole)
    (X0 X1 X2 X3 X4 X5 : Vec F S11x1280 .f32) (X6 : Vec F S1x1 .f32) (E : Set ℕ) :
    (iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6) : sProp (MT nD τ sig Unit (Elt F) ℕ U ℕ))
      ⊢ wp frame (wpE (defs₀ (F := F)) 𝒱 (c : Thread nD τ) bd) E (cc2__fin_kernel arg0 harg0 arg1 harg1 arg2 harg2 arg3 harg3 arg4 harg4 arg5 harg5 arg6 harg6)
          (fun _ => iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (closing X0 X1 X2 X3 X4 X5))) := by
  rw [cc2__fin_kernel_eq_skeleton]
  unfold cc2__fin_kernel_skel owns
  rw [k2_part1_eq_skeleton]
  unfold k2_part1_skel
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  have h0 : ∀ inb, arg0.view.readAt (Elt F) (Rect.unit (s := S11x1280) ![0, 0] S11x1280.size inb).toLoadRect f0 = X0 :=
    fun inb => by rw [View.readAt_full, e0]
  have h1 : ∀ inb, arg1.view.readAt (Elt F) (Rect.unit (s := S11x1280) ![0, 0] S11x1280.size inb).toLoadRect f1 = X1 :=
    fun inb => by rw [View.readAt_full, e1]
  have h2 : ∀ inb, arg2.view.readAt (Elt F) (Rect.unit (s := S11x1280) ![0, 0] S11x1280.size inb).toLoadRect f2 = X2 :=
    fun inb => by rw [View.readAt_full, e2]
  have h3 : ∀ inb, arg3.view.readAt (Elt F) (Rect.unit (s := S11x1280) ![0, 0] S11x1280.size inb).toLoadRect f3 = X3 :=
    fun inb => by rw [View.readAt_full, e3]
  have h4 : ∀ inb, arg4.view.readAt (Elt F) (Rect.unit (s := S11x1280) ![0, 0] S11x1280.size inb).toLoadRect f4 = X4 :=
    fun inb => by rw [View.readAt_full, e4]
  have h5 : ∀ inb, arg5.view.readAt (Elt F) (Rect.unit (s := S11x1280) ![0, 0] S11x1280.size inb).toLoadRect f5 = X5 :=
    fun inb => by rw [View.readAt_full, e5]
  sl_exec
  sl_step
  isplitl [H0]
  · iexists f0; isplitr
    · ipureintro; exact e0
    · iassumption
  isplitl [H1]
  · iexists f1; isplitr
    · ipureintro; exact e1
    · iassumption
  isplitl [H2]
  · iexists f2; isplitr
    · ipureintro; exact e2
    · iassumption
  isplitl [H3]
  · iexists f3; isplitr
    · ipureintro; exact e3
    · iassumption
  isplitl [H4]
  · iexists f4; isplitr
    · ipureintro; exact e4
    · iassumption
  isplitl [H5]
  · iexists f5; isplitr
    · ipureintro; exact e5
    · iassumption
  iexists _
  isplitr [H6]
  swap
  · iassumption
  ipureintro
  sl_unfold_run_names
  simp only [h0, h1, h2, h3, h4, h5]
  exact View.read_writes_full _ _ _ _ _

end Cert.KernelIdeal.Part

end
-- ==== Proof.Part.Data2.lean ====
/- The closing call: what each window's buffer may hold at its one point and after it, and that the body keeps to it. -/
module

public import proofs.«01_k».proof.Proof.Part.Body2
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.Pipeline.Regions

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat)

variable {F : FTy → Type} [FloatOps F] {U : Type} [URA U]

/-- What the buffer of window `w` may hold at the point: the block of its array there. -/
def Found2 (c : Dev nD) (W : Valuation τ sig (Elt F)) (w : Fin 7) (t : Fin grid2.N) (X : (cfg2.win w).block.Idx → Elt F (cfg2.win w).elt) : Prop :=
  ∃ d, X = (cfg2.win w).fill (grid2.coords t) d (((cfg2.win w).blk t).view.read (Elt F)
    (W (Proc.devRef .tc (Pipeline.arrRef spec2 w)) : Buf (Elt F) ((cfg2.win w).arr.view.loc (c.tc : Thread nD τ))))

/-- What the closing call leaves: `closing` of some contents its six operands may hold. -/
def Closes (c : Dev nD) (W : Valuation τ sig (Elt F)) (t : Fin grid2.N) (X : Vec F S1x1 .f32) : Prop :=
  ∃ X0 X1 X2 X3 X4 X5 : Vec F S11x1280 .f32, Found2 c W 0 t X0 ∧ Found2 c W 1 t X1 ∧ Found2 c W 2 t X2 ∧ Found2 c W 3 t X3 ∧ Found2 c W 4 t X4
    ∧ Found2 c W 5 t X5 ∧ X = closing X0 X1 X2 X3 X4 X5

/-- What each window's buffer may hold after the point: an operand's as found. -/
def after2 (c : Dev nD) (W : Valuation τ sig (Elt F)) : (w : Fin 7) → Fin grid2.N → (Y X : (cfg2.win w).block.Idx → Elt F (cfg2.win w).elt) → Prop
  | 0, _, Y, X => X = Y
  | 1, _, Y, X => X = Y
  | 2, _, Y, X => X = Y
  | 3, _, Y, X => X = Y
  | 4, _, Y, X => X = Y
  | 5, _, Y, X => X = Y
  | 6, t, _, X => Closes c W t X
  | ⟨_ + 7, h⟩, _, _, _ => absurd h (Nat.not_lt.2 (Nat.le_add_left _ _))

/-- The closing call's contents, from the unscoped buffers `W` it is entered with. -/
def rd2 (W : Dev nD → Valuation τ sig (Elt F)) (c : Dev nD) : RDat τ (Elt F) Unit ℕ U ℕ cfg2 c where
  A w := W c (Proc.devRef .tc (Pipeline.arrRef spec2 w))
  after := after2 c (W c)
  Φ t := Pipeline.scopedRest spec2 c
  q _ := fullShare
  owed _ := 0

/-- No operand's block is cut. -/
theorem cut2 (w : Fin 7) (hw : (cfg2.win w).isOut = false) (t t' : Fin grid2.N) (h : (cfg2.win w).index t = (cfg2.win w).index t') :
    (cfg2.win w).clip (grid2.coords t) = (cfg2.win w).clip (grid2.coords t') := by
  match w, hw, h with
  | 0, _, _ => rfl
  | 1, _, _ => rfl
  | 2, _, _ => rfl
  | 3, _, _ => rfl
  | 4, _, _ => rfl
  | 5, _, _ => rfl
  | 6, hw, _ => exact absurd hw (by decide)

/-- The body leaves an operand's buffer as found. -/
theorem keeps2 (W : Dev nD → Valuation τ sig (Elt F)) (c : Dev nD) (w : Fin 7) (hw : (cfg2.win w).isOut = false) (t : Fin grid2.N)
    (Y X : (cfg2.win w).block.Idx → Elt F (cfg2.win w).elt) (h : (rd2 (U := U) W c).after w t Y X) : X = Y := by
  match w, hw, Y, X, h with
  | 0, _, _, _, h => exact h
  | 1, _, _, _, h => exact h
  | 2, _, _, _, h => exact h
  | 3, _, _, _, h => exact h
  | 4, _, _, _, h => exact h
  | 5, _, _, _, h => exact h
  | 6, hw, _, _, _ => exact absurd hw (by decide)

/-- An operand's buffer holds its block when the point runs. -/
theorem found2 (W : Dev nD → Valuation τ sig (Elt F)) (c : Dev nD) (w : Fin 7) (hw : (cfg2.win w).isOut = false) (t : Fin grid2.N)
    (Y : (cfg2.win w).block.Idx → Elt F (cfg2.win w).elt) (h : (rd2 (U := U) W c).Finds w t Y) : Found2 c (W c) w t Y :=
  RDat.finds_in_eq_fetched (rd2 W c) w hw (cut2 w hw) (keeps2 W c w hw) t Y h

/-- The body at the point. -/
theorem bodyOk2 (𝒱 : Variants) (W : Dev nD → Valuation τ sig (Elt F)) (c : Dev nD) :
    (rd2 (U := U) W c).BodyObligation (defs₀ (F := F)) 𝒱 () Set.univ := by
  intro t Y hY
  have hs : Closes c (W c) t (closing (Y 0) (Y 1) (Y 2) (Y 3) (Y 4) (Y 5)) :=
    ⟨_, _, _, _, _, _, found2 W c 0 rfl t (Y 0) (hY 0), found2 W c 1 rfl t (Y 1) (hY 1), found2 W c 2 rfl t (Y 2) (hY 2),
      found2 W c 3 rfl t (Y 3) (hY 3), found2 W c 4 rfl t (Y 4) (hY 4), found2 W c 5 rfl t (Y 5) (hY 5), rfl⟩
  rw [bigSep_W2, bigSep_W2]
  show iprop(Pipeline.scopedRest spec2 c ∗ (rd2 (U := U) W c).owesAt () t.castSucc ∗ _)
    ⊢ wp frame (wpE (defs₀ (F := F)) 𝒱 (c : Thread nD τ) none) Set.univ (bodyAt2 t) fun _ =>
      iprop(Pipeline.scopedRest spec2 c ∗ (rd2 (U := U) W c).owesAt () t.castSucc ∗ _)
  iintro ⟨HR, HO, H0, H1, H2, H3, H4, H5, H6⟩
  have hp := body2 (F := F) (U := U) 𝒱 c none (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0) (win2_5.stage (cfg2.slots t 5)) (hstage2_5 0) (win2_6.stage (cfg2.slots t 6)) (hstage2_6 0)
    (Y 0) (Y 1) (Y 2) (Y 3) (Y 4) (Y 5) (Y 6) Set.univ
  ihave Hw := hp $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iapply (wp_wand frame (wpE (defs₀ (F := F)) 𝒱 (c : Thread nD τ) none) Set.univ) $$ [Hw]
  · iexact Hw
  iintro %_ ⟨H0, H1, H2, H3, H4, H5, H6⟩
  isplitl [HR]; · iexact HR
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  iexists _; isplitr; swap; · iexact H6
  ipureintro; exact hs

end Cert.KernelIdeal.Part

end
-- ==== Proof.Part.Step.lean ====
/- A call whose body owes nothing, as a step of its program: from the unscoped buffers before it to those after it,
   with what its proof data says its arrays may hold. Stated for any program and any relational proof data. -/
module

public import Idealize.ShloMosaic.Lib.Pipeline.RegionArraysF

@[expose] public section

noncomputable section

namespace Cert.KernelIdeal.Part

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]
variable {Λ₀ : Idealize.SL.Sem.Labels} {P : Type} [Fintype P]
variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

/-- What a call may leave its arrays at. -/
abbrev Left (c : Dev nD) : Type := (w : Fin (pin pcs a p).W) → Buf Val (((pin pcs a p).win w).arr.view.loc (c.tc : Thread nD τ))

/-- What a call's proof data says of the contents it leaves its arrays at. -/
abbrev MayLeave [∀ e, Nonempty (Val e)] (c : Dev nD) (A : Left (τ := τ) pcs a p c) : Prop := ∀ w, (rdats p c).ArrAt w (pin pcs a p).N (A w)

omit [Fintype P] in
/-- A call's arrays at the contents `A` are its array buffers held at any valuation that has them there. -/
theorem held_arrays (kit : PLaunchFacts (nD := nD) (τ := τ) pcs p) (c : Dev nD) (A : Left (τ := τ) pcs a p c) (V : Valuation τ sig Val)
    (hA : ∀ w, A w = V (Proc.devRef .tc (arrRef (pin pcs a p).spec w))) :
    (bigSep Finset.univ fun w => (((c.tc : Thread nD τ).loc (arrRef (pin pcs a p).spec w)) ↦{fullShare} A w : sProp (MT nD τ sig Unit Val ℕ U ℕ)))
      = StableHlo.held (c.tc : Thread nD τ) (arrRefs (pcs p).spec) V := by
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hA]; rfl

/-- The core's unscoped buffers at `V`, nothing owed. -/
abbrev At (c : Dev nD) (V : Valuation τ sig Val) : sProp (MT nD τ sig Unit Val ℕ U ℕ) :=
  iprop(StableHlo.held (c.tc : Thread nD τ) (ucRefs τ sig) V ∗ ∃ Wd, owes (c : Thread nD τ) (0 : CellTallies nD τ sig Unit) Wd)

omit [Fintype P] in
/-- The step: from the unscoped buffers at `W`, to them at `mk` of some contents the call may leave its arrays at. -/
def region [∀ e, Nonempty (Val e)] (kit : PLaunchFacts (nD := nD) (τ := τ) pcs p) (hK : (pcs p).pre.K = 0)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare)
    (hin : ∀ c, scopedRest (pin pcs a p).spec c ⊢ (rdats p c).Φ 0)
    (hout : ∀ c, (rdats p c).Φ (Fin.last (pin pcs a p).N) ⊢ scopedRest (pin pcs a p).spec c)
    (W : Dev nD → Valuation τ sig Val) (hW : ∀ c w, (rdats p c).A w = W c (Proc.devRef .tc (arrRef (pin pcs a p).spec w)))
    (mk : (c : Dev nD) → Left (τ := τ) pcs a p c → Valuation τ sig Val)
    (hmkA : ∀ c A, MayLeave pcs a rdats p c A → ∀ w, A w = mk c A (Proc.devRef .tc (arrRef (pin pcs a p).spec w)))
    (hmkO : ∀ c A, ∀ d ∈ ucRefs τ sig \ arrRefs (pcs p).spec, mk c A d = W c d) :
    RDat.RegionSeg pcs a rdats () defs₀ 𝒱₀ L lv p where
  win := kit.to₀.win
  block_pos := kit.to₀.block_pos
  stage_whole := kit.to₀.stage_whole
  K := PEmpty
  osem := fun k => k.elim
  ho := OwnSemFacts.none _
  hbody c := hbody c
  hwaits c := (show _ ⊢ (BI.emp : sProp (MT nD τ sig Unit Val ℕ U ℕ)) from by iintro -; iempintro).trans
    (RDat.cellsWaits_of_owed_zero (pin pcs a) rdats () p c (howed c))
  pre c := At c (W c)
  post c := iprop(∃ A : Left (τ := τ) pcs a p c, ⌜MayLeave pcs a rdats p c A⌝ ∗ At c (mk c A))
  X _ := BI.emp
  Y _ := BI.emp
  Z c := StableHlo.held (c.tc : Thread nD τ) (ucRefs τ sig \ arrRefs (pcs p).spec) (W c)
  hentry c := by
    unfold At
    rw [prefHeld_of_none _ hK, StableHlo.held_sub_split (c.tc : Thread nD τ) (arrRefs_sub_ucRefs (pcs p).spec kit.win.arr_unscoped) (W c),
      RDat.arrays_eq pcs a rdats p c kit.arr_whole (hshare c), held_arrays pcs a p kit c _ (W c) (hW c)]
    iintro ⟨⟨⟨Ha, Hr⟩, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := (show _ ⊢ scopedRest (pin pcs a p).spec c from by iintro ⟨-, -, H⟩; iexact H).trans (hin c)
  hout c := (hout c).trans (by
    rw [ownSems0_none]
    iintro H
    isplitr; · iempintro
    isplitr; · iempintro
    iexact H)
  hexit c := by
    rw [RDat.arraysAt_eq pcs a rdats p c kit.arr_whole (hshare c)]
    iintro ⟨Ha, HO, -, Hr⟩
    ihave Ha := (BI.bigSep_exists_pi Finset.univ (fun w A => iprop(⌜(rdats p c).ArrAt w (pin pcs a p).N A⌝
      ∗ (((c.tc : Thread nD τ).loc (arrRef (pin pcs a p).spec w)) ↦{fullShare} A : sProp (MT nD τ sig Unit Val ℕ U ℕ))))) $$ Ha
    icases Ha with ⟨%A, Ha⟩
    ihave Ha := (BI.bigSep_pure_sep Finset.univ (fun w => (rdats p c).ArrAt w (pin pcs a p).N (A w))
      (fun w => (((c.tc : Thread nD τ).loc (arrRef (pin pcs a p).spec w)) ↦{fullShare} A w : sProp (MT nD τ sig Unit Val ℕ U ℕ)))) $$ Ha
    icases Ha with ⟨%hA, Ha⟩
    have hA' : MayLeave pcs a rdats p c A := fun w => hA w (Finset.mem_univ w)
    ihave Ha := (Entails.of_eq (held_arrays pcs a p kit c A (mk c A) (hmkA c A hA'))) $$ Ha
    imodintro
    iexists A
    isplitr; · ipureintro; exact hA'
    unfold At
    rw [StableHlo.held_sub_split (c.tc : Thread nD τ) (arrRefs_sub_ucRefs (pcs p).spec kit.win.arr_unscoped) (mk c A),
      StableHlo.held_congr (c.tc : Thread nD τ) (hmkO c A)]
    isplitl [Ha Hr]
    · isplitl [Ha]; · iexact Ha
      iexact Hr
    unfold RDat.owesAt owesWithin
    rw [howed c (Fin.last _)]
    icases HO with ⟨%Wd, -, HO⟩; iexists Wd; iexact HO

end Cert.KernelIdeal.Part

end
-- ==== Proof.Part.Region.lean ====
/- The three calls as steps of the whole program: from the unscoped buffers before a call to those after it. -/
module

public import proofs.«01_k».proof.Proof.Part.Data0
public import proofs.«01_k».proof.Proof.Part.Data1
public import proofs.«01_k».proof.Proof.Part.Data2
public import proofs.«01_k».proof.Proof.Part.Step
public import proofs.«01_k».proof.Proof.Gen.KernelIdeal.Regions

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Pipeline (RDat)

variable {F : FTy → Type} [FloatOps F] {U : Type} [URA U]

/-- The three calls' contents, each entered with the unscoped buffers `W`. -/
def fam (W : Dev nD → Valuation τ sig (Elt F)) : (p : Fin 3) → (c : Dev nD) → RDat τ (Elt F) Unit ℕ U ℕ (Pipeline.pin (pcfgs (F := F)) adm p) c
  | 0 => rd0 W
  | 1 => rd1 W
  | 2 => rd2 W

/-- At the first point of streaming call 0 its scratch may hold anything. -/
theorem enter0 (W : Dev nD → Valuation τ sig (Elt F)) (c : Dev nD) :
    Pipeline.scopedRest spec0 c ⊢ (rd0 (U := U) W c).Φ 0 := by
  rw [Pipeline.scopedRest_split_of_list spec0 c [cc0_scratch0] (by decide) (by decide)]
  show iprop((∃ f, ((c : Thread nD τ).loc cc0_scratch0) ↦{fullShare} f) ∗ Pipeline.scopedRestBut spec0 c [cc0_scratch0])
    ⊢ iprop((∃ X8, ⌜Kept0 c (W c) 0 X8⌝ ∗ owns (c : Thread nD τ) (Memref.whole cc0_scratch0) fullShare X8) ∗ Pipeline.scopedRestBut spec0 c [cc0_scratch0])
  iintro ⟨⟨%f, H⟩, HR⟩
  isplitl [H]
  · iexists f
    isplitr
    · ipureintro
      intro t ht h0
      rw [(coords0 t).2, ht] at h0
      exact absurd rfl h0
    · rw [owns_whole]; iexact H
  · iexact HR

/-- After the last point of streaming call 0 its scratch is given back. -/
theorem leave0 (W : Dev nD → Valuation τ sig (Elt F)) (c : Dev nD) :
    (rd0 (U := U) W c).Φ (Fin.last grid0.N) ⊢ Pipeline.scopedRest spec0 c := by
  rw [Pipeline.scopedRest_split_of_list spec0 c [cc0_scratch0] (by decide) (by decide)]
  show iprop((∃ X8, ⌜Kept0 c (W c) grid0.N X8⌝ ∗ owns (c : Thread nD τ) (Memref.whole cc0_scratch0) fullShare X8) ∗ Pipeline.scopedRestBut spec0 c [cc0_scratch0])
    ⊢ iprop((∃ f, ((c : Thread nD τ).loc cc0_scratch0) ↦{fullShare} f) ∗ Pipeline.scopedRestBut spec0 c [cc0_scratch0])
  simp only [owns_whole]
  iintro ⟨⟨%X8, -, H⟩, HR⟩
  isplitl [H]
  · iexists X8
    iexact H
  · iexact HR

/-- At the first point of streaming call 1 its scratch may hold anything. -/
theorem enter1 (W : Dev nD → Valuation τ sig (Elt F)) (c : Dev nD) :
    Pipeline.scopedRest spec1 c ⊢ (rd1 (U := U) W c).Φ 0 := by
  rw [Pipeline.scopedRest_split_of_list spec1 c [cc1_scratch0] (by decide) (by decide)]
  show iprop((∃ f, ((c : Thread nD τ).loc cc1_scratch0) ↦{fullShare} f) ∗ Pipeline.scopedRestBut spec1 c [cc1_scratch0])
    ⊢ iprop((∃ X8, ⌜Kept1 c (W c) 0 X8⌝ ∗ owns (c : Thread nD τ) (Memref.whole cc1_scratch0) fullShare X8) ∗ Pipeline.scopedRestBut spec1 c [cc1_scratch0])
  iintro ⟨⟨%f, H⟩, HR⟩
  isplitl [H]
  · iexists f
    isplitr
    · ipureintro
      intro t ht h0
      rw [(coords1 t).2, ht] at h0
      exact absurd rfl h0
    · rw [owns_whole]; iexact H
  · iexact HR

/-- After the last point of streaming call 1 its scratch is given back. -/
theorem leave1 (W : Dev nD → Valuation τ sig (Elt F)) (c : Dev nD) :
    (rd1 (U := U) W c).Φ (Fin.last grid1.N) ⊢ Pipeline.scopedRest spec1 c := by
  rw [Pipeline.scopedRest_split_of_list spec1 c [cc1_scratch0] (by decide) (by decide)]
  show iprop((∃ X8, ⌜Kept1 c (W c) grid1.N X8⌝ ∗ owns (c : Thread nD τ) (Memref.whole cc1_scratch0) fullShare X8) ∗ Pipeline.scopedRestBut spec1 c [cc1_scratch0])
    ⊢ iprop((∃ f, ((c : Thread nD τ).loc cc1_scratch0) ↦{fullShare} f) ∗ Pipeline.scopedRestBut spec1 c [cc1_scratch0])
  simp only [owns_whole]
  iintro ⟨⟨%X8, -, H⟩, HR⟩
  isplitl [H]
  · iexists X8
    iexact H
  · iexact HR

/-- A buffer just replaced holds what it was replaced with. -/
theorem upd_self (V : Valuation τ sig (Elt F)) (r : Ref sig .tc) (x) : Function.update V (Proc.devRef .tc r) x (Proc.devRef .tc r) = x :=
  Function.update_self _ _ _

/-- The unscoped buffers after streaming call 0: its three outputs replaced. -/
def next0 (V : Valuation τ sig (Elt F)) (c : Dev nD) (A : Left (τ := τ) (pcfgs (F := F)) adm 0 c) : Valuation τ sig (Elt F) :=
  Function.update (Function.update (Function.update V (Proc.devRef .tc main_v6_0) (A 3)) (Proc.devRef .tc main_v6_1) (A 4)) (Proc.devRef .tc main_v6_2) (A 5)

theorem next0_of (V : Valuation τ sig (Elt F)) (c : Dev nD) (A : Left (τ := τ) (pcfgs (F := F)) adm 0 c) (r : Ref sig .tc)
    (ha : r ≠ main_v6_0) (hb : r ≠ main_v6_1) (hd : r ≠ main_v6_2) : next0 V c A (Proc.devRef .tc r) = V (Proc.devRef .tc r) :=
  (Function.update_of_ne (StableHlo.devRef_ne_of_ne hd) _ _).trans ((Function.update_of_ne (StableHlo.devRef_ne_of_ne hb) _ _).trans
    (Function.update_of_ne (StableHlo.devRef_ne_of_ne ha) _ _))

theorem next0_0 (V : Valuation τ sig (Elt F)) (c : Dev nD) (A : Left (τ := τ) (pcfgs (F := F)) adm 0 c) :
    next0 V c A (Proc.devRef .tc main_v6_0) = A 3 :=
  (Function.update_of_ne (StableHlo.devRef_ne_of_ne (by decide)) _ _).trans ((Function.update_of_ne (StableHlo.devRef_ne_of_ne (by decide)) _ _).trans
    (upd_self _ main_v6_0 (A 3)))

theorem next0_1 (V : Valuation τ sig (Elt F)) (c : Dev nD) (A : Left (τ := τ) (pcfgs (F := F)) adm 0 c) :
    next0 V c A (Proc.devRef .tc main_v6_1) = A 4 :=
  (Function.update_of_ne (StableHlo.devRef_ne_of_ne (by decide)) _ _).trans (upd_self _ main_v6_1 (A 4))

theorem next0_2 (V : Valuation τ sig (Elt F)) (c : Dev nD) (A : Left (τ := τ) (pcfgs (F := F)) adm 0 c) :
    next0 V c A (Proc.devRef .tc main_v6_2) = A 5 :=
  upd_self _ main_v6_2 (A 5)

/-- Streaming call 0 as a step. -/
def step0 (𝒱 : Variants) (L : GSem nD τ sig → Finset Unit) (lv : GSem nD τ sig → Unit → ℕ) (W : Dev nD → Valuation τ sig (Elt F)) :
    RDat.RegionSeg (pcfgs (F := F)) adm (fam (U := U) W) () (defs₀ (F := F)) 𝒱 L lv 0 :=
  region (pcfgs (F := F)) adm (fam (U := U) W) defs₀ 𝒱 L lv 0 launch0.toP rfl (bodyOk0 𝒱 W) (fun _ _ => rfl) (fun _ => rfl)
    (fun _ _ => ite_self _) (enter0 W) (leave0 W) W (fun _ _ => rfl) (fun c A => next0 (W c) c A)
    (fun c A hA w => by
      have hin : ∀ w : Fin 6, (cfg0.win w).isOut = false → A w = W c (Proc.devRef .tc (Pipeline.arrRef spec0 w)) := fun w hw =>
        (congrFun ((rd0 (U := U) W c).ArrAt_in w hw _) (A w)).mp (hA w)
      match w with
      | 0 => exact (hin 0 rfl).trans (next0_of (W c) c A main_v1 (by decide) (by decide) (by decide)).symm
      | 1 => exact (hin 1 rfl).trans (next0_of (W c) c A main_v3 (by decide) (by decide) (by decide)).symm
      | 2 => exact (hin 2 rfl).trans (next0_of (W c) c A main_v5 (by decide) (by decide) (by decide)).symm
      | 3 => exact (next0_0 (W c) c A).symm
      | 4 => exact (next0_1 (W c) c A).symm
      | 5 => exact (next0_2 (W c) c A).symm)
    (fun c A d hd => by
      have hn : ∀ w : Fin 6, d ≠ Proc.devRef .tc (Pipeline.arrRef spec0 w) := fun w e =>
        (Finset.mem_sdiff.mp hd).2 (e ▸ Finset.mem_map_of_mem _ (Finset.mem_image_of_mem _ (Finset.mem_univ w)))
      exact (Function.update_of_ne (hn 5) _ _).trans ((Function.update_of_ne (hn 4) _ _).trans (Function.update_of_ne (hn 3) _ _)))

/-- The unscoped buffers after streaming call 1: its three outputs replaced. -/
def next1 (V : Valuation τ sig (Elt F)) (c : Dev nD) (A : Left (τ := τ) (pcfgs (F := F)) adm 1 c) : Valuation τ sig (Elt F) :=
  Function.update (Function.update (Function.update V (Proc.devRef .tc main_v11_0) (A 3)) (Proc.devRef .tc main_v11_1) (A 4)) (Proc.devRef .tc main_v11_2) (A 5)

theorem next1_of (V : Valuation τ sig (Elt F)) (c : Dev nD) (A : Left (τ := τ) (pcfgs (F := F)) adm 1 c) (r : Ref sig .tc)
    (ha : r ≠ main_v11_0) (hb : r ≠ main_v11_1) (hd : r ≠ main_v11_2) : next1 V c A (Proc.devRef .tc r) = V (Proc.devRef .tc r) :=
  (Function.update_of_ne (StableHlo.devRef_ne_of_ne hd) _ _).trans ((Function.update_of_ne (StableHlo.devRef_ne_of_ne hb) _ _).trans
    (Function.update_of_ne (StableHlo.devRef_ne_of_ne ha) _ _))

theorem next1_0 (V : Valuation τ sig (Elt F)) (c : Dev nD) (A : Left (τ := τ) (pcfgs (F := F)) adm 1 c) :
    next1 V c A (Proc.devRef .tc main_v11_0) = A 3 :=
  (Function.update_of_ne (StableHlo.devRef_ne_of_ne (by decide)) _ _).trans ((Function.update_of_ne (StableHlo.devRef_ne_of_ne (by decide)) _ _).trans
    (upd_self _ main_v11_0 (A 3)))

theorem next1_1 (V : Valuation τ sig (Elt F)) (c : Dev nD) (A : Left (τ := τ) (pcfgs (F := F)) adm 1 c) :
    next1 V c A (Proc.devRef .tc main_v11_1) = A 4 :=
  (Function.update_of_ne (StableHlo.devRef_ne_of_ne (by decide)) _ _).trans (upd_self _ main_v11_1 (A 4))

theorem next1_2 (V : Valuation τ sig (Elt F)) (c : Dev nD) (A : Left (τ := τ) (pcfgs (F := F)) adm 1 c) :
    next1 V c A (Proc.devRef .tc main_v11_2) = A 5 :=
  upd_self _ main_v11_2 (A 5)

/-- Streaming call 1 as a step. -/
def step1 (𝒱 : Variants) (L : GSem nD τ sig → Finset Unit) (lv : GSem nD τ sig → Unit → ℕ) (W : Dev nD → Valuation τ sig (Elt F)) :
    RDat.RegionSeg (pcfgs (F := F)) adm (fam (U := U) W) () (defs₀ (F := F)) 𝒱 L lv 1 :=
  region (pcfgs (F := F)) adm (fam (U := U) W) defs₀ 𝒱 L lv 1 launch1.toP rfl (bodyOk1 𝒱 W) (fun _ _ => rfl) (fun _ => rfl)
    (fun _ _ => ite_self _) (enter1 W) (leave1 W) W (fun _ _ => rfl) (fun c A => next1 (W c) c A)
    (fun c A hA w => by
      have hin : ∀ w : Fin 6, (cfg1.win w).isOut = false → A w = W c (Proc.devRef .tc (Pipeline.arrRef spec1 w)) := fun w hw =>
        (congrFun ((rd1 (U := U) W c).ArrAt_in w hw _) (A w)).mp (hA w)
      match w with
      | 0 => exact (hin 0 rfl).trans (next1_of (W c) c A main_v1 (by decide) (by decide) (by decide)).symm
      | 1 => exact (hin 1 rfl).trans (next1_of (W c) c A main_v8 (by decide) (by decide) (by decide)).symm
      | 2 => exact (hin 2 rfl).trans (next1_of (W c) c A main_v10 (by decide) (by decide) (by decide)).symm
      | 3 => exact (next1_0 (W c) c A).symm
      | 4 => exact (next1_1 (W c) c A).symm
      | 5 => exact (next1_2 (W c) c A).symm)
    (fun c A d hd => by
      have hn : ∀ w : Fin 6, d ≠ Proc.devRef .tc (Pipeline.arrRef spec1 w) := fun w e =>
        (Finset.mem_sdiff.mp hd).2 (e ▸ Finset.mem_map_of_mem _ (Finset.mem_image_of_mem _ (Finset.mem_univ w)))
      exact (Function.update_of_ne (hn 5) _ _).trans ((Function.update_of_ne (hn 4) _ _).trans (Function.update_of_ne (hn 3) _ _)))

/-- The unscoped buffers after the closing call: its output replaced. -/
def next2 (V : Valuation τ sig (Elt F)) (c : Dev nD) (A : Left (τ := τ) (pcfgs (F := F)) adm 2 c) : Valuation τ sig (Elt F) :=
  Function.update V (Proc.devRef .tc main_v12) (A 6)

theorem next2_of (V : Valuation τ sig (Elt F)) (c : Dev nD) (A : Left (τ := τ) (pcfgs (F := F)) adm 2 c) (r : Ref sig .tc)
    (ha : r ≠ main_v12) : next2 V c A (Proc.devRef .tc r) = V (Proc.devRef .tc r) :=
  Function.update_of_ne (StableHlo.devRef_ne_of_ne ha) _ _

theorem next2_0 (V : Valuation τ sig (Elt F)) (c : Dev nD) (A : Left (τ := τ) (pcfgs (F := F)) adm 2 c) :
    next2 V c A (Proc.devRef .tc main_v12) = A 6 :=
  upd_self _ main_v12 (A 6)

/-- The closing call keeps no scratch. -/
theorem enter2 (W : Dev nD → Valuation τ sig (Elt F)) (c : Dev nD) : Pipeline.scopedRest spec2 c ⊢ (rd2 (U := U) W c).Φ 0 := by
  show Pipeline.scopedRest spec2 c ⊢ Pipeline.scopedRest spec2 c
  exact .rfl

theorem leave2 (W : Dev nD → Valuation τ sig (Elt F)) (c : Dev nD) : (rd2 (U := U) W c).Φ (Fin.last grid2.N) ⊢ Pipeline.scopedRest spec2 c := by
  show Pipeline.scopedRest spec2 c ⊢ Pipeline.scopedRest spec2 c
  exact .rfl

/-- The closing call as a step. -/
def step2 (𝒱 : Variants) (L : GSem nD τ sig → Finset Unit) (lv : GSem nD τ sig → Unit → ℕ) (W : Dev nD → Valuation τ sig (Elt F)) :
    RDat.RegionSeg (pcfgs (F := F)) adm (fam (U := U) W) () (defs₀ (F := F)) 𝒱 L lv 2 :=
  region (pcfgs (F := F)) adm (fam (U := U) W) defs₀ 𝒱 L lv 2 launch2.toP rfl (bodyOk2 𝒱 W) (fun _ _ => rfl) (fun _ => rfl)
    (fun _ _ => ite_self _) (enter2 W) (leave2 W) W (fun _ _ => rfl) (fun c A => next2 (W c) c A)
    (fun c A hA w => by
      have hin : ∀ w : Fin 7, (cfg2.win w).isOut = false → A w = W c (Proc.devRef .tc (Pipeline.arrRef spec2 w)) := fun w hw =>
        (congrFun ((rd2 (U := U) W c).ArrAt_in w hw _) (A w)).mp (hA w)
      match w with
      | 0 => exact (hin 0 rfl).trans (next2_of (W c) c A main_v6_0 (by decide)).symm
      | 1 => exact (hin 1 rfl).trans (next2_of (W c) c A main_v6_1 (by decide)).symm
      | 2 => exact (hin 2 rfl).trans (next2_of (W c) c A main_v6_2 (by decide)).symm
      | 3 => exact (hin 3 rfl).trans (next2_of (W c) c A main_v11_0 (by decide)).symm
      | 4 => exact (hin 4 rfl).trans (next2_of (W c) c A main_v11_1 (by decide)).symm
      | 5 => exact (hin 5 rfl).trans (next2_of (W c) c A main_v11_2 (by decide)).symm
      | 6 => exact (next2_0 (W c) c A).symm)
    (fun c A d hd => by
      have hn : ∀ w : Fin 7, d ≠ Proc.devRef .tc (Pipeline.arrRef spec2 w) := fun w e =>
        (Finset.mem_sdiff.mp hd).2 (e ▸ Finset.mem_map_of_mem _ (Finset.mem_image_of_mem _ (Finset.mem_univ w)))
      exact Function.update_of_ne (hn 6) _ _)

end Cert.KernelIdeal.Part

end
-- ==== Proof.Part.Run.lean ====
/- The whole program on one core: its host stretches and its three calls one after the other, and what they leave. -/
module

public import proofs.«01_k».proof.Proof.Part.Region

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Rounds
open Idealize.ShloMosaic.Pipeline (RDat HostSeg)

variable {F : FTy → Type} [FloatOps F]

/-- The ghost state of a launch: twice what the pipelines' transfers use. -/
abbrev UU : Type := URounds (GSem nD τ sig) Unit × URounds (GSem nD τ sig) Unit

/-- The model the run is described in. -/
abbrev MM (F : FTy → Type) : Type := MT nD τ sig Unit (Elt F) ℕ UU ℕ

/-- No cell has a level. -/
abbrev noL : GSem nD τ sig → Finset Unit := fun _ => ∅
abbrev noLv : GSem nD τ sig → Unit → ℕ := fun _ _ => 0

/-- The copy of the ghost state the calls take theirs from. -/
abbrev ER : Emb (URounds (GSem nD τ sig) Unit) (MM F) := embR

/-- One call's ghost state on a core. -/
abbrev Ghost (p : Fin 3) (c : Dev nD) : sProp (MM F) :=
  iprop(Pipeline.cellsGhost (Pipeline.pin (pcfgs (F := F)) adm) ER p c ∗ Pipeline.toksInit (Pipeline.pin (pcfgs (F := F)) adm) ER p c)

/-- A core's unscoped buffers when the second streaming call is entered, the first having left its arrays at `A0`. -/
abbrev W5 (m : (ℓ : Loc nD τ sig) → Buf (Elt F) ℓ) (c : Dev nD) (A0 : Left (τ := τ) (pcfgs (F := F)) adm 0 c) : Valuation τ sig (Elt F) :=
  StableHlo.after hostOps1 (next0 (V3 m c) c A0)

/-- What the run may leave in a core's unscoped buffers: the host stretches and the calls in order, each call leaving its
    arrays at contents its proof data allows. -/
def Final (m : (ℓ : Loc nD τ sig) → Buf (Elt F) ℓ) (c : Dev nD) (V : Valuation τ sig (Elt F)) : Prop :=
  ∃ (A0 : Left (τ := τ) (pcfgs (F := F)) adm 0 c) (A1 : Left (τ := τ) (pcfgs (F := F)) adm 1 c) (A2 : Left (τ := τ) (pcfgs (F := F)) adm 2 c),
    MayLeave (pcfgs (F := F)) adm (fam (U := UU) (V3 m)) 0 c A0 ∧
    MayLeave (pcfgs (F := F)) adm (fam (U := UU) fun _ => W5 m c A0) 1 c A1 ∧
    MayLeave (pcfgs (F := F)) adm (fam (U := UU) fun _ => next1 (W5 m c A0) c A1) 2 c A2 ∧
    V = StableHlo.after hostOps3 (next2 (next1 (W5 m c A0) c A1) c A2)

/-- A host stretch as a step between the unscoped buffers' contents. -/
theorem hostStep (ops : List (HloOp τ sig (Elt F))) (hsub : ops.Forall fun op => op.bufs ⊆ StableHlo.tcRefs τ sig) (hfresh : ops.Forall fun op => op.fresh = ∅)
    (c : Dev nD) (V : Valuation τ sig (Elt F)) {β : Type}
    (k : PUnit → Prog (TpuEff nD τ sig (Elt F) (Pipeline.Sig Λ₀ (Fin 3) fun p => (pcfgs (F := F) p).Adm) .tc) β) (K : β → sProp (MM F)) :
    iprop((iprop(boundary (c.tc : Thread nD τ) ∗ At c (StableHlo.after ops V)) -∗ wp frame (wpE (defs (F := F)) (Variants.lift Variants.none) (c.tc : Thread nD τ) none) Set.univ (k ⟨⟩) K)
        ∗ boundary (c.tc : Thread nD τ) ∗ At c V ∗ levAts noL noLv)
      ⊢ wp frame (wpE (defs (F := F)) (Variants.lift Variants.none) (c.tc : Thread nD τ) none) Set.univ (StableHlo.seq ops >>= k) K :=
  (HostSeg.ofOps (pcfgs (F := F)) defs₀ Variants.none noL noLv (Pipeline.ucRefs τ sig) ops
    (fun op h => Pipeline.sub_ucRefs op ((List.forall_iff_forall_mem.mp hsub) op h))
    (fun op h => (List.forall_iff_forall_mem.mp hfresh) op h) (fun _ => V)
    (fun c => iprop(∃ Wd, owes (c : Thread nD τ) (0 : CellTallies nD τ sig Unit) Wd))).run c k K

/-- A call as a step between the unscoped buffers' contents. -/
theorem callStep {p : Fin 3} {W : Dev nD → Valuation τ sig (Elt F)}
    (R : RDat.RegionSeg (pcfgs (F := F)) adm (fam (U := UU) W) () (defs₀ (F := F)) Variants.none noL noLv p)
    (c : Dev nD) (V : Valuation τ sig (Elt F)) (mk : Left (τ := τ) (pcfgs (F := F)) adm p c → Valuation τ sig (Elt F))
    (hpre : R.pre c = At c V)
    (hpost : R.post c = iprop(∃ A, ⌜MayLeave (pcfgs (F := F)) adm (fam (U := UU) W) p c A⌝ ∗ At c (mk A))) {β : Type}
    (k : PUnit → Prog (TpuEff nD τ sig (Elt F) (Pipeline.Sig Λ₀ (Fin 3) fun p => (pcfgs (F := F) p).Adm) .tc) β) (K : β → sProp (MM F)) :
    iprop((iprop(boundary (c.tc : Thread nD τ) ∗ ∃ A, ⌜MayLeave (pcfgs (F := F)) adm (fam (U := UU) W) p c A⌝ ∗ At c (mk A))
          -∗ wp frame (wpE (defs (F := F)) (Variants.lift Variants.none) (c.tc : Thread nD τ) none) Set.univ (k ⟨⟩) K)
        ∗ boundary (c.tc : Thread nD τ) ∗ At c V ∗ levAts noL noLv ∗ Ghost p c)
      ⊢ wp frame (wpE (defs (F := F)) (Variants.lift Variants.none) (c.tc : Thread nD τ) none) Set.univ (Prog.lift (.customCall (Pipeline.entry p) ()) >>= k) K := by
  rw [← hpre, ← hpost]
  exact R.wp (pcfgs (F := F)) adm (fam (U := UU) W) () cellOf_inj ER defs₀ Variants.none noL noLv c none (fun _ h => nomatch h) k K

/-- The program's run on one core, from its launch contents to what it may leave. -/
theorem wholeRun (m : (ℓ : Loc nD τ sig) → Buf (Elt F) ℓ) (c : Dev nD) {β : Type}
    (k : PUnit → Prog (TpuEff nD τ sig (Elt F) (Pipeline.Sig Λ₀ (Fin 3) fun p => (pcfgs (F := F) p).Adm) .tc) β) (K : β → sProp (MM F)) :
    iprop((iprop(boundary (c.tc : Thread nD τ) ∗ ∃ V, ⌜Final m c V⌝ ∗ At c V)
          -∗ wp frame (wpE (defs (F := F)) (Variants.lift Variants.none) (c.tc : Thread nD τ) none) Set.univ (k ⟨⟩) K)
        ∗ boundary (c.tc : Thread nD τ) ∗ (At c (V0 m c) ∗ Ghost 0 c ∗ Ghost 1 c ∗ Ghost 2 c) ∗ levAts noL noLv)
      ⊢ wp frame (wpE (defs (F := F)) (Variants.lift Variants.none) (c.tc : Thread nD τ) none) Set.univ (main c >>= k) K := by
  rw [main_chain c]
  simp only [Pipeline.chain_cons, Pipeline.chain_nil, Prog.bind_assoc, Prog.pure_eq_ret, Prog.bind_ret]
  iintro ⟨Hk, Hbd, ⟨HT, HG0, HG1, HG2⟩, #Hla⟩
  iapply (hostStep hostOps0 hostOps0_sub hostOps0_fresh c (V0 m c) _ K)
  isplitr [Hbd HT]
  rotate_left
  · isplitl [Hbd]; · iexact Hbd
    isplitl [HT]; · iexact HT
    iexact Hla
  iintro ⟨Hbd, HT⟩
  iapply (hostStep hostOps0_1 hostOps0_1_sub hostOps0_1_fresh c (V1 m c) _ K)
  isplitr [Hbd HT]
  rotate_left
  · isplitl [Hbd]; · iexact Hbd
    isplitl [HT]; · iexact HT
    iexact Hla
  iintro ⟨Hbd, HT⟩
  iapply (hostStep hostOps0_2 hostOps0_2_sub hostOps0_2_fresh c (V2 m c) _ K)
  isplitr [Hbd HT]
  rotate_left
  · isplitl [Hbd]; · iexact Hbd
    isplitl [HT]; · iexact HT
    iexact Hla
  iintro ⟨Hbd, HT⟩
  iapply (callStep (step0 Variants.none noL noLv (V3 m)) c (V3 m c) (next0 (V3 m c) c) rfl rfl _ K)
  isplitr [Hbd HT HG0]
  rotate_left
  · isplitl [Hbd]; · iexact Hbd
    isplitl [HT]; · iexact HT
    isplitr; · iexact Hla
    iexact HG0
  iintro ⟨Hbd, %A0, %h0, HT⟩
  iapply (hostStep hostOps1 hostOps1_sub hostOps1_fresh c (next0 (V3 m c) c A0) _ K)
  isplitr [Hbd HT]
  rotate_left
  · isplitl [Hbd]; · iexact Hbd
    isplitl [HT]; · iexact HT
    iexact Hla
  iintro ⟨Hbd, HT⟩
  iapply (callStep (step1 Variants.none noL noLv fun _ => W5 m c A0) c (W5 m c A0) (next1 (W5 m c A0) c) rfl rfl _ K)
  isplitr [Hbd HT HG1]
  rotate_left
  · isplitl [Hbd]; · iexact Hbd
    isplitl [HT]; · iexact HT
    isplitr; · iexact Hla
    iexact HG1
  iintro ⟨Hbd, %A1, %h1, HT⟩
  iapply (callStep (step2 Variants.none noL noLv fun _ => next1 (W5 m c A0) c A1) c (next1 (W5 m c A0) c A1) (next2 (next1 (W5 m c A0) c A1) c) rfl rfl _ K)
  isplitr [Hbd HT HG2]
  rotate_left
  · isplitl [Hbd]; · iexact Hbd
    isplitl [HT]; · iexact HT
    isplitr; · iexact Hla
    iexact HG2
  iintro ⟨Hbd, %A2, %h2, HT⟩
  iapply (hostStep hostOps3 hostOps3_sub hostOps3_fresh c (next2 (next1 (W5 m c A0) c A1) c A2) _ K)
  isplitr [Hbd HT]
  rotate_left
  · isplitl [Hbd]; · iexact Hbd
    isplitl [HT]; · iexact HT
    iexact Hla
  iintro ⟨Hbd, HT⟩
  iapply Hk
  isplitl [Hbd]; · iexact Hbd
  iexists _
  isplitr
  · ipureintro
    exact ⟨A0, A1, A2, h0, h1, h2, rfl⟩
  iexact HT

end Cert.KernelIdeal.Part

end
-- ==== Proof.Part.Launch.lean ====
/- The launch: every run ends, with the arguments as they were and the result among what the calls may leave. -/
module

public import proofs.«01_k».proof.Proof.Part.Run

@[expose] public section

set_option maxRecDepth 8192
set_option maxHeartbeats 4000000

noncomputable section

namespace Cert.KernelIdeal.Part

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Rounds
open Idealize.ShloMosaic.Pipeline (RDat HostSeg Seg)

variable {F : FTy → Type} [FloatOps F]

/-- No argument is written by a host stretch or a call. -/
theorem final_arg (m : (ℓ : Loc nD τ sig) → Buf (Elt F) ℓ) (c : Dev nD) (V : Valuation τ sig (Elt F)) (h : Final m c V) (r : Ref sig .tc)
    (hr : r = main_arg0 ∨ r = main_arg1) : V (Proc.devRef .tc r) = m ((c.tc : Thread nD τ).loc r) := by
  obtain ⟨A0, A1, A2, -, -, -, rfl⟩ := h
  have keep : r ∉ hostOps3_W ∧ r ≠ main_v12 ∧ (r ≠ main_v11_0 ∧ r ≠ main_v11_1 ∧ r ≠ main_v11_2) ∧ r ∉ hostOps1_W
      ∧ (r ≠ main_v6_0 ∧ r ≠ main_v6_1 ∧ r ≠ main_v6_2) ∧ r ∉ hostOps0_2_W ∧ r ∉ hostOps0_1_W ∧ r ∉ hostOps0_W := by
    rcases hr with rfl | rfl <;> decide
  obtain ⟨k3, k2, ⟨k1, k1', k1''⟩, kh, ⟨k0, k0', k0''⟩, ka, kb, kd⟩ := keep
  exact (StableHlo.after_of_writes_sub hostOps3 _ hostOps3_writes k3).trans <| (next2_of _ c A2 r k2).trans <|
    (next1_of _ c A1 r k1 k1' k1'').trans <| (StableHlo.after_of_writes_sub hostOps1 _ hostOps1_writes kh).trans <|
    (next0_of _ c A0 r k0 k0' k0'').trans <| (V3_of m c r ka).trans <| (V2_of m c r kb).trans (V1_of m c r kd)

/-- The three calls' ghost state on every core, dealt from one launch state. -/
theorem deal : (BI.own ((ER (F := F)) (initOf (Pipeline.cells (Pipeline.pin (pcfgs (F := F)) adm) cellOf_inj) (Pipeline.launchToks (Pipeline.pin (pcfgs (F := F)) adm) cellOf_inj))) : sProp (MM F))
    ⊢ |={Set.univ}=> bigSep Finset.univ fun c : Dev nD => iprop(Ghost 0 c ∗ Ghost 1 c ∗ Ghost 2 c) := by
  iintro H
  imod (Pipeline.fund_ghost (Pipeline.pin (pcfgs (F := F)) adm) (ER (F := F)) cellOf_inj) $$ H with ⟨Hg, Ht⟩
  imodintro
  have hjoin : iprop((bigSep Finset.univ fun c : Dev nD => bigSep Finset.univ fun p : Fin 3 => Pipeline.cellsGhost (Pipeline.pin (pcfgs (F := F)) adm) (ER (F := F)) p c)
      ∗ (bigSep Finset.univ fun c : Dev nD => bigSep Finset.univ fun p : Fin 3 => Pipeline.toksInit (Pipeline.pin (pcfgs (F := F)) adm) (ER (F := F)) p c))
      ⊢ bigSep Finset.univ fun c : Dev nD => iprop(Ghost 0 c ∗ Ghost 1 c ∗ Ghost 2 c) := by
    rw [← bigSep_sep']
    refine bigSep_mono fun c _ => ?_
    rw [← bigSep_sep', bigSep_univ_eq_bigSepL [(0 : Fin 3), (1 : Fin 3), (2 : Fin 3)] (by decide) (by decide)]
    exact BI.Entails.refl _
  iapply hjoin
  isplitl [Hg] <;> iassumption

/-- The program as one step. -/
def whole (m : (ℓ : Loc nD τ sig) → Buf (Elt F) ℓ) (c : Dev nD) : HostSeg (pcfgs (F := F)) (Ix := Unit) (Name := ℕ) (U := UU) defs₀ Variants.none noL noLv where
  prog := main c
  pre c' := iprop(At c' (V0 m c') ∗ Ghost 0 c' ∗ Ghost 1 c' ∗ Ghost 2 c')
  post c' := iprop(∃ V, ⌜Final m c' V⌝ ∗ At c' V)
  run c' _ k K := wholeRun m c' k K

set_option backward.isDefEq.respectTransparency.types false in
/-- Every run ends; the arguments are as launched, the semaphores zero, and the memory as the calls may leave it. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      ∃ V, Final m c V ∧ (r.2.mem ((c.tc : Thread nD τ).loc main_v13) = V (Proc.devRef .tc main_v13)
        ∧ r.2.mem ((c.tc : Thread nD τ).loc main_arg0) = m ((c.tc : Thread nD τ).loc main_arg0)
        ∧ r.2.mem ((c.tc : Thread nD τ).loc main_arg1) = m ((c.tc : Thread nD τ).loc main_arg1)))
      ∧ r.2.sem = fun _ => 0 := by
  refine RDat.θ_run_regions_kit_dev_sems (pcfgs (F := F)) adm (fam (U := UU) (V3 m)) () cellOf_inj embL defs₀ Variants.none noL noLv m ρ main
    (fun c => [.host (whole m c)]) (fun c Q => ?_) (fun c => List.nodup_nil) (fun _ _ => 0) (fun _ _ => rfl)
    (fun c => iprop(Ghost 0 c ∗ Ghost 1 c ∗ Ghost 2 c))
    (initOf (Pipeline.cells (Pipeline.pin (pcfgs (F := F)) adm) cellOf_inj) (Pipeline.launchToks (Pipeline.pin (pcfgs (F := F)) adm) cellOf_inj),
     initOf (Pipeline.cells (Pipeline.pin (pcfgs (F := F)) adm) cellOf_inj) (Pipeline.launchToks (Pipeline.pin (pcfgs (F := F)) adm) cellOf_inj))
    ?_ (fun c => iprop(At c (V0 m c) ∗ Ghost 0 c ∗ Ghost 1 c ∗ Ghost 2 c))
    (fun c => iprop(∃ V, ⌜Final m c V⌝ ∗ StableHlo.held (c : Thread nD τ) (Pipeline.ucRefs τ sig) V))
    (fun c => ⟨.rfl, ?_⟩) ?_
    (fun c s => ∃ V, Final m c V ∧ (s.mem ((c.tc : Thread nD τ).loc main_v13) = V (Proc.devRef .tc main_v13)
        ∧ s.mem ((c.tc : Thread nD τ).loc main_arg0) = m ((c.tc : Thread nD τ).loc main_arg0)
        ∧ s.mem ((c.tc : Thread nD τ).loc main_arg1) = m ((c.tc : Thread nD τ).loc main_arg1)))
    (fun c s' => ?_) (fun _ h hz => ⟨h, funext fun g => hz g (.inr (regions_no_unscoped g.2))⟩)
  · rw [show Pipeline.RDat.Seg.run [.host (whole m c)] = (main c >>= fun _ => pure ⟨⟩) from rfl, Prog.bind_pure]
  · iintro Hu
    ihave H := (ownU_pair _ _) $$ Hu
    icases H with ⟨HP, HX⟩
    imod (deal (F := F)) $$ HX with HX
    imodintro
    isplitl [HP]; · iexact HP
    iexact HX
  · show iprop(∃ V, ⌜Final m c V⌝ ∗ At c V) ⊢ _
    iintro ⟨%V, %hV, Hh, HO⟩
    isplitl [Hh]
    · iexists V
      isplitr; · ipureintro; exact hV
      iexact Hh
    · iexact HO
  · iintro ⟨H, -⟩
    imodintro
    have hpre : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ Ghost 0 c ∗ Ghost 1 c ∗ Ghost 2 c) : sProp (MM F))
        ⊢ (bigSep Finset.univ fun c : Dev nD => iprop(At c (V0 m c) ∗ Ghost 0 c ∗ Ghost 1 c ∗ Ghost 2 c) : sProp (MM F)) := by
      refine bigSep_mono fun c _ => ?_
      show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ Ghost 0 c ∗ Ghost 1 c ∗ Ghost 2 c)
        ⊢ (iprop(At c (V0 m c) ∗ Ghost 0 c ∗ Ghost 1 c ∗ Ghost 2 c) : sProp (MM F))
      iintro ⟨Hb, -, HO, -, -, HG⟩
      isplitr [HG]
      · isplitl [Hb]
        · rw [← Pipeline.unscopedBufs_held (Ix := Unit) (Name := ℕ) (U := UU) (Lvl := ℕ) c (V0 m c)]
          iexact Hb
        · iexists ∅
          iexact HO
      · iexact HG
    iapply hpre
    iexact H
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨V, hV, h (Proc.devRef .tc main_v13) (Finset.mem_filter.mpr ⟨StableHlo.devRef_mem_tcRefs main_v13, by decide⟩),
        (h (Proc.devRef .tc main_arg0) (Finset.mem_filter.mpr ⟨StableHlo.devRef_mem_tcRefs main_arg0, by decide⟩)).trans (final_arg m c V hV _ (.inl rfl)),
        (h (Proc.devRef .tc main_arg1) (Finset.mem_filter.mpr ⟨StableHlo.devRef_mem_tcRefs main_arg1, by decide⟩)).trans (final_arg m c V hV _ (.inr rfl))⟩
    · iexact HSI

end Cert.KernelIdeal.Part

end
-- ==== Proof.Part.Frames.lean ====
/- The frames: the program as printed, its idealization and the reference each end with their arguments as launched and every
   semaphore at zero. The first two are one program, so one run serves both. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Part.Launch
public import Idealize.ShloMosaic.Init

@[expose] public section

set_option maxRecDepth 8192
set_option maxHeartbeats 4000000

noncomputable section

namespace Cert.Proof

open Idealize.ShloMosaic Idealize.ShloMosaic.Tactic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The two printed texts declare the same memory, -/
theorem sig_eq : Cert.Kernel.sig = Cert.KernelIdeal.sig := rfl

set_option maxHeartbeats 0 in
/-- the same calls, -/
theorem defs_eq {F : FTy → Type} [FloatOps F] : @Cert.Kernel.defs F _ Cert.Kernel.Gen.facts = @Cert.KernelIdeal.defs F _ Cert.KernelIdeal.Gen.facts := by chain_rfl

set_option maxHeartbeats 0 in
/-- and the same program. -/
theorem main_eq {F : FTy → Type} [FloatOps F] : @Cert.Kernel.main F _ Cert.Kernel.Gen.facts = @Cert.KernelIdeal.main F _ Cert.KernelIdeal.Gen.facts := by chain_rfl

/-- The idealization's frame. -/
theorem frame_ideal : Cert.quiescent_KernelIdeal := by
  intro m ρ _
  refine (θ_run Cert.KernelIdeal.defs _ _).mono (fun r h => ⟨fun c => ?_, h.2⟩) (Cert.KernelIdeal.Part.run (F := Ideal) m ρ)
  obtain ⟨V, -, -, h0, h1⟩ := h.1 c
  exact ⟨h0, h1⟩

/-- The program's frame: the idealization's text at the machine's floats. -/
theorem frame_kernel : Cert.quiescent_Kernel := by
  intro m ρ _
  rw [defs_eq, main_eq]
  refine (θ_run Cert.KernelIdeal.defs _ _).mono (fun r h => ⟨fun c => ?_, h.2⟩) (Cert.KernelIdeal.Part.run (F := Bits) m ρ)
  obtain ⟨V, -, -, h0, h1⟩ := h.1 c
  exact ⟨h0, h1⟩

/-- The reference's frame: it declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Part.Columns.lean ====
/- Over the extended reals: the column sums of one grid point's running vectors, as sums over the rows of its block. -/
module

public import proofs.«01_k».proof.Proof.Part.Rows
public import Idealize.ShloMosaic.Lib.ValueIdx
public import Idealize.ShloMosaic.Lib.IdealHost
public import Idealize.ShloMosaic.Lib.MatmulPlain
public import Idealize.ShloMosaic.Lib.ValueLayout

@[expose] public section

set_option maxRecDepth 8192

noncomputable section

namespace Cert.KernelIdeal.Part

open Idealize.ShloMosaic Idealize.ShloMosaic.TcCoe
open Idealize.ShloMosaic.ValueIdx hiding ix1 ix2 ix3 eq_ix1 eq_ix2 eq_ix3
open Cert.KernelIdeal Cert.KernelIdeal.Gen
open scoped BigOperators

/-- `v` where `p` exceeds the threshold `e`, zero elsewhere. -/
def pick (e v p : EReal) : EReal := if e < p then v else 0

/-- What the three running vectors sum over the elements above the threshold: one, the element, its match mark. -/
def val (i : Fin 3) (p m : EReal) : EReal := match i with
  | 0 => 1
  | 1 => p
  | 2 => m

/-- The running vector `i` of three. -/
def comp {F : FTy → Type} [FloatOps F] (i : Fin 3) (a : Acc F) : FVec F S8x1280 .f32 := match i with
  | 0 => a.1
  | 1 => a.2.1
  | 2 => a.2.2

theorem zero_eq : (zero : Ideal .f32) = (0 : EReal) := Ideal.ofBits_zero_f32
theorem one_eq : (one : Ideal .f32) = (1 : EReal) := Ideal.ofBits_one_f32

/-- A choice on a comparison is a choice on the order. -/
theorem select_ogt (p e a b : EReal) : Scalar.select (FloatOps.cmpf (F := Ideal) (φ := .f32) .ogt p e) a b = if e < p then a else b := by
  by_cases h : e < p <;> simp [Scalar.select, FloatOps.cmpf, Ideal.cmp, h]

/-- One chunk adds to each running vector what its elements above the threshold contribute. -/
theorem step_apply (e : EReal) (p m : FVec Ideal S8x1280 .f32) (a : Acc Ideal) (i : Fin 3) (j : S8x1280.Idx) :
    comp i (step e p m a) j = comp i a j + pick e (val i (p j) (m j)) (p j) := by
  match i with
  | 0 => exact congrArg (a.1 j + ·) ((select_ogt _ _ _ _).trans (by rw [broadcast_apply, broadcast_apply, zero_eq, one_eq]; rfl))
  | 1 => exact congrArg (a.2.1 j + ·) ((select_ogt _ _ _ _).trans (by rw [broadcast_apply, zero_eq]; rfl))
  | 2 => exact congrArg (a.2.2 j + ·) ((select_ogt _ _ _ _).trans (by rw [broadcast_apply, zero_eq]; rfl))

/-- All chunks. -/
theorem acc_apply (e : EReal) (p m : ℕ → FVec Ideal S8x1280 .f32) (i : Fin 3) (j : S8x1280.Idx) (n : ℕ) :
    comp i (acc e p m n) j = ∑ q ∈ Finset.range n, pick e (val i (p q j) (m q j)) (p q j) := by
  induction n with
  | zero => match i with
    | 0 => exact zero_eq
    | 1 => exact zero_eq
    | 2 => exact zero_eq
  | succ n ih => rw [Finset.sum_range_succ, ← ih]; exact step_apply e (p n) (m n) (acc e p m n) i j

/-- A sum over `a * b` numbers by chunks of `a`. -/
theorem sum_chunks {M : Type} [AddCommMonoid M] (a b : ℕ) (g : ℕ → M) :
    ∑ q ∈ Finset.range b, ∑ s ∈ Finset.range a, g (a * q + s) = ∑ x ∈ Finset.range (a * b), g x := by
  induction b with
  | zero => rfl
  | succ b ih => rw [Finset.sum_range_succ, ih, Nat.mul_succ, Finset.sum_range_add]

/-- A block's element at row `x`, lane `l`. -/
def at2 {α : Type} (X : S1024x1280.Idx → α) (x : ℕ) (l : Fin 1280) : α := X (ix2 ⟨x % 1024, Nat.mod_lt _ (by decide)⟩ l)

/-- Which rows of the last block the mask keeps. -/
theorem mask_word (N : ℕ) (hN : N = 7812 ∨ N = 7813) : ∀ (q : Fin 128) (s : Fin 8),
    IntOp.cmpi .slt (BitVec.ofNat 32 s.val) (Scalar.subi (Scalar.subi (BitVec.ofNat 32 N) (Scalar.muli (BitVec.ofNat 32 7) 1024#32)) (BitVec.ofNat 32 (8 * q.val)))
      = BitVec.ofBool (decide (7168 + (8 * q.val + s.val) < N)) := by
  rcases hN with rfl | rfl <;> decide +kernel

/-- The masked rows. -/
theorem mrows_apply (N : ℕ) (hN : N = 7812 ∨ N = 7813) (X : Vec Ideal S1024x1280 .f32) (q : ℕ) (hq : q < 128) (s : Fin 8) (l : Fin 1280) :
    mrows (Scalar.subi (BitVec.ofNat 32 N) (Scalar.muli (BitVec.ofNat 32 7) 1024#32)) X q (ix2 s l)
      = if 7168 + (8 * q + s.val) < N then at2 X (8 * q + s.val) l else (0 : EReal) := by
  have h : mrows (Scalar.subi (BitVec.ofNat 32 N) (Scalar.muli (BitVec.ofNat 32 7) 1024#32)) X q (ix2 s l)
      = Scalar.select (IntOp.cmpi .slt (iota .tc S8x1280 32 [0] iota_S8x1280_d0_w32 (ix2 s l)) (Scalar.subi (Scalar.subi (BitVec.ofNat 32 N) (Scalar.muli (BitVec.ofNat 32 7) 1024#32)) (BitVec.ofNat 32 (8 * q))))
        (at2 X (8 * q + s.val) l) (zero : Ideal .f32) := rfl
  rw [h, iota_single_apply, show ((ix2 s l : S8x1280.Idx) 0).val = s.val from rfl, mask_word N hN ⟨q, hq⟩ s, zero_eq]
  by_cases hc : 7168 + (8 * q + s.val) < N <;> simp [Scalar.select, hc]

/-- Nothing exceeds a threshold that is not negative at a masked row. -/
theorem pick_mask (e : EReal) (h0 : 0 ≤ e) (c : Prop) [Decidable c] (i : Fin 3) (p m : EReal) :
    pick e (val i (if c then p else 0) m) (if c then p else 0) = if c then pick e (val i p m) p else 0 := by
  split
  · rfl
  · exact if_neg (not_lt.mpr h0)

/-- The column sums of a point's running vectors: over the rows of its block that lie in the array. -/
theorem point_sum (N : ℕ) (hN : N = 7812 ∨ N = 7813) (b : ℕ) (hb : b < 8) (k : Fin 11) (X2 : Vec Ideal S1x11 .f32) (h0 : (0 : EReal) ≤ X2 (ix2 0 k))
    (X3 M : Vec Ideal S1024x1280 .f32) (i : Fin 3) (l : Fin 1280) :
    ∑ s : Fin 8, comp i (point (BitVec.ofNat 32 N) b k X2 X3 M) (ix2 s l)
      = ∑ x ∈ Finset.range 1024, if 1024 * b + x < N then pick (X2 (ix2 0 k)) (val i (at2 X3 x l) (at2 M x l)) (at2 X3 x l) else 0 := by
  have key : ∀ s : Fin 8, comp i (point (BitVec.ofNat 32 N) b k X2 X3 M) (ix2 s l)
      = ∑ q ∈ Finset.range 128, if 1024 * b + (8 * q + s.val) < N then pick (X2 (ix2 0 k)) (val i (at2 X3 (8 * q + s.val) l) (at2 M (8 * q + s.val) l)) (at2 X3 (8 * q + s.val) l) else 0 := by
    intro s
    unfold point
    rw [acc_apply]
    refine Finset.sum_congr rfl fun q hq => ?_
    rw [Finset.mem_range] at hq
    by_cases h7 : b = 7
    · subst h7
      rw [if_pos rfl, mrows_apply N hN X3 q hq s l, show (rows M q (ix2 s l) : EReal) = at2 M (8 * q + s.val) l from rfl]
      exact pick_mask _ h0 _ i _ _
    · have hs := s.isLt
      rw [if_neg h7, if_pos (by rcases hN with rfl | rfl <;> omega)]
      rfl
  rw [Finset.sum_congr rfl fun s _ => key s, Finset.sum_comm, ← sum_chunks 8 128]
  exact Finset.sum_congr rfl fun q _ => by rw [Finset.sum_range]

/-- A row with the column sums added. -/
theorem addRow_apply (a : FVec Ideal S8x1280 .f32) (o : Vec Ideal S1x1280 .f32) (l : Fin 1280) :
    (addRow a o (ix2 0 l) : EReal) = o (ix2 0 l) + ∑ s : Fin 8, (a (ix2 s l) : EReal) := by
  have h1 : shapeCast S1x1280 o shapeCasts_S1x1280_S1x1280 = o := shapeCast_self _ _
  have h2 : (shapeCast S1x1280 (multiReduction .add [0] S1280 a 0x00000000#32 reduces_S8x1280_S1280 (.inl rfl) rfl) shapeCasts_S1280_S1x1280 : FVec Ideal S1x1280 .f32) (ix2 0 l)
      = (multiReduction .add [0] S1280 a 0x00000000#32 reduces_S8x1280_S1280 (.inl rfl) rfl : FVec Ideal S1280 .f32) (ix1 l) :=
    shapeCast_a_1a_apply _ _ _ _
  unfold addRow
  rw [h1, addf_apply, h2]
  refine congrArg (o (ix2 0 l) + ·) ((Ideal.multiReduction_add_single (φ := .f32) a _ reduces_S8x1280_S1280 (.inl rfl) rfl (ix1 l)).trans ?_)
  exact Finset.sum_congr rfl fun s _ => congrArg a (funext fun b => match b with | ⟨0, _⟩ => rfl | ⟨1, _⟩ => rfl)

/-- The output before anything is added holds zeros. -/
theorem zeros_apply (j : S11x1280.Idx) : (zeros (F := Ideal) j : EReal) = 0 := zero_eq

end Cert.KernelIdeal.Part

end
-- ==== Proof.Part.Marks.lean ====
/- Over the extended reals: the match marks of a block of labels — one where the label of the lane's sample is the lane's class, zero elsewhere. -/
module

public import proofs.«01_k».proof.Proof.Part.Columns

@[expose] public section

set_option maxRecDepth 8192

noncomputable section

namespace Cert.KernelIdeal.Part

open Idealize.ShloMosaic Idealize.ShloMosaic.TcCoe
open Idealize.ShloMosaic.ValueIdx hiding ix1 ix2 ix3 eq_ix1 eq_ix2 eq_ix3
open Cert.KernelIdeal Cert.KernelIdeal.Gen
open scoped BigOperators

/-- The kernel's floor division of a lane number by ten. -/
def quotWord (v24 : BitVec 32) : BitVec 32 :=
  Scalar.select (IntOp.andi
      (IntOp.cmpi .ne (IntOp.subi (Scalar.extui (IntOp.cmpi .sgt v24 0#32)) (Scalar.extui (IntOp.cmpi .slt v24 0#32)))
        (Scalar.subi (Scalar.extui (Scalar.cmpi .sgt 10#32 0#32)) (Scalar.extui (Scalar.cmpi .slt 10#32 0#32))))
      (IntOp.cmpi .ne (IntOp.remsi .vector v24 10#32) 0#32))
    (IntOp.subi (IntOp.divsi .vector v24 10#32) 1#32) (IntOp.divsi .vector v24 10#32)

/-- The kernel's floor remainder of a lane number by ten. -/
def remWord (v : BitVec 32) : BitVec 32 :=
  Scalar.select (IntOp.andi (IntOp.xori (IntOp.cmpi .slt (IntOp.remsi .vector v 10#32) 0#32) (Scalar.cmpi .slt 10#32 0#32)) (IntOp.cmpi .ne (IntOp.remsi .vector v 10#32) 0#32))
    (IntOp.addi (IntOp.remsi .vector v 10#32) 10#32) (IntOp.remsi .vector v 10#32)

theorem quotWord_eq : ∀ l : Fin 1280, quotWord (BitVec.ofNat 32 l.val) = BitVec.ofNat 32 (l.val / 10) := by decide +kernel
theorem remWord_eq : ∀ l : Fin 1280, remWord (BitVec.ofNat 32 l.val) = BitVec.ofNat 32 (l.val % 10) := by decide +kernel

/-- A one-bit word as a number. -/
theorem sitofp_bit (c : Prop) [Decidable c] : (FloatOps.sitofp (F := Ideal) .f32 ((BitVec.ofBool (decide c)).setWidth 32) : EReal) = if c then 1 else 0 := by
  by_cases h : c <;> simp [h, FloatOps.sitofp]

/-- Sample numbers as words. -/
theorem sample_word : ∀ s t : Fin 128, IntOp.cmpi .eq (BitVec.ofNat 32 s.val) (BitVec.ofNat 32 t.val) = BitVec.ofBool (decide (s = t)) := by decide +kernel

/-- The sample a lane belongs to. -/
def laneSample (l : Fin 1280) : Fin 128 := ⟨l.val / 10, by omega⟩

/-- The label of every lane's sample, as a number. -/
theorem laneLabel (Y : Vec Ideal S1024x128 .i32) (x : Fin 1024) (l : Fin 1280) :
    (k0_pay24 Y (ix2 x l) : EReal) = (((Y (ix2 x (laneSample l)) : BitVec 32).toInt : ℝ) : EReal) := by
  have e1 : k0_pay24 (F := Ideal) Y = FloatOps.matmul (DotDims.plain 1024 128 1280) none (fun j => FloatOps.sitofp .f32 (Y j))
      (fun j : S128x1280.Idx => FloatOps.sitofp .f32 ((IntOp.cmpi .eq (iota .tc S128x1280 32 [0] iota_S128x1280_d0_w32 j) (quotWord (iota .tc S128x1280 32 [1] iota_S128x1280_d1_w32 j))).setWidth 32))
      (constant S1024x1280 .f32 0x00000000#32) := by
    unfold k0_pay24
    rw [shapeCast_self]
    rfl
  rw [e1]
  refine (Ideal.matmul_plain_apply _ _ _ _ _ _).trans ?_
  have ht : ∀ k : Fin 128, (FloatOps.sitofp (F := Ideal) .f32 (Y (ix2 x k)) * FloatOps.sitofp (F := Ideal) .f32 ((IntOp.cmpi .eq (iota .tc S128x1280 32 [0] iota_S128x1280_d0_w32 (ix2 k l))
      (quotWord (iota .tc S128x1280 32 [1] iota_S128x1280_d1_w32 (ix2 k l)))).setWidth 32) : EReal)
      = (((Y (ix2 x k) : BitVec 32).toInt : ℝ) : EReal) * if k = laneSample l then 1 else 0 := by
    intro k
    rw [iota_single_apply, iota_single_apply, show ((ix2 k l : S128x1280.Idx) 0).val = k.val from rfl, show ((ix2 k l : S128x1280.Idx) 1).val = l.val from rfl,
      quotWord_eq]
    have hw := congrArg (fun v : BitVec 1 => (FloatOps.sitofp (F := Ideal) .f32 (v.setWidth 32) : EReal)) (sample_word k (laneSample l))
    refine (congrArg ((((Y (ix2 x k) : BitVec 32).toInt : ℝ) : EReal) * ·) (hw.trans (sitofp_bit _)))
  have h1 : (constant S1024x1280 .f32 0x00000000#32 : FVec Ideal S1024x1280 .f32) (ix2 x l) = (0 : EReal) := zero_eq
  refine (congrArg₂ (· + ·) h1 (Finset.sum_congr rfl fun k _ => ht k)).trans ?_
  simp

/-- The match mark of a lane: whether its sample's label is its class. -/
theorem marks_apply (Y : Vec Ideal S1024x128 .i32) (x : Fin 1024) (l : Fin 1280) :
    (marks Y (ix2 x l) : EReal) = if Y (ix2 x (laneSample l)) = BitVec.ofNat 32 (l.val % 10) then 1 else 0 := by
  have e1 : marks (F := Ideal) Y (ix2 x l) = FloatOps.sitofp (F := Ideal) .f32 ((Ideal.cmp .oeq (k0_pay24 (F := Ideal) Y (ix2 x l))
      (FloatOps.sitofp (F := Ideal) .f32 (remWord (iota .tc S1024x1280 32 [1] iota_S1024x1280_d1_w32 (ix2 x l))))).setWidth 32) := by
    unfold marks k0_pay4
    rw [shapeCast_self]
    rfl
  rw [e1, iota_single_apply, show ((ix2 x l : S1024x1280.Idx) 1).val = l.val from rfl, remWord_eq, laneLabel]
  refine (sitofp_bit _).trans ?_
  refine if_congr ?_ rfl rfl
  show (((Y (ix2 x (laneSample l)) : BitVec 32).toInt : ℝ) : EReal) = (((BitVec.ofNat 32 (l.val % 10)).toInt : ℝ) : EReal) ↔ _
  rw [EReal.coe_eq_coe_iff, Int.cast_inj, BitVec.toInt_inj]

end Cert.KernelIdeal.Part

end
-- ==== Proof.Part.Totals.lean ====
/- Over the extended reals: what an output array of a streaming call holds once every grid point has added its sums. -/
module

public import proofs.«01_k».proof.Proof.Part.Marks
public import Idealize.ShloMosaic.Lib.Pipeline.ArrRel

@[expose] public section

set_option maxRecDepth 8192

noncomputable section

namespace Cert.KernelIdeal.Part

open Idealize.ShloMosaic Idealize.ShloMosaic.TcCoe
open Idealize.ShloMosaic.ValueIdx hiding ix1 ix2 ix3 eq_ix1 eq_ix2 eq_ix3
open Idealize.ShloMosaic.Pipeline (RDat)
open Cert.KernelIdeal Cert.KernelIdeal.Gen
open scoped BigOperators

/-- Whether the label of a lane's sample in row `r` is the lane's class, as a number. -/
def mark {N : ℕ} (Y : (⟨2, ![N, 128]⟩ : Shape).Idx → BitVec 32) (r : Fin N) (l : Fin 1280) : EReal :=
  if Y (ix2 r (laneSample l)) = BitVec.ofNat 32 (l.val % 10) then 1 else 0

/-- What row `r` contributes to the sum `i` of lane `l` over threshold `e`: nothing past the array's end. -/
def summand {N : ℕ} (Q : (⟨2, ![N, 1280]⟩ : Shape).Idx → EReal) (Y : (⟨2, ![N, 128]⟩ : Shape).Idx → BitVec 32) (e : EReal) (i : Fin 3) (l : Fin 1280) (r : ℕ) : EReal :=
  if h : r < N then pick e (val i (Q (ix2 ⟨r, h⟩ l)) (mark Y ⟨r, h⟩ l)) (Q (ix2 ⟨r, h⟩ l)) else 0

/-- A block that agrees with the array on the array's rows has the array's contributions as its column sums. -/
theorem point_total {N : ℕ} (hN : N = 7812 ∨ N = 7813) (b : ℕ) (hb : b < 8) (k : Fin 11) (e : EReal) (h0 : 0 ≤ e)
    (Q : (⟨2, ![N, 1280]⟩ : Shape).Idx → EReal) (Y : (⟨2, ![N, 128]⟩ : Shape).Idx → BitVec 32)
    (X2 : Vec Ideal S1x11 .f32) (X3 : Vec Ideal S1024x1280 .f32) (X4 : Vec Ideal S1024x128 .i32) (hE : (X2 (ix2 0 k) : EReal) = e)
    (h3 : ∀ (x : Fin 1024) (l : Fin 1280) (h : 1024 * b + x.val < N), (X3 (ix2 x l) : EReal) = Q (ix2 ⟨1024 * b + x.val, h⟩ l))
    (h4 : ∀ (x : Fin 1024) (s : Fin 128) (h : 1024 * b + x.val < N), (X4 (ix2 x s) : BitVec 32) = Y (ix2 ⟨1024 * b + x.val, h⟩ s)) (i : Fin 3) (l : Fin 1280) :
    ∑ s : Fin 8, (comp i (point (BitVec.ofNat 32 N) b k X2 X3 (marks X4)) (ix2 s l) : EReal)
      = ∑ x ∈ Finset.range 1024, summand Q Y e i l (1024 * b + x) := by
  rw [point_sum N hN b hb k X2 (hE ▸ h0) X3 (marks X4) i l]
  refine Finset.sum_congr rfl fun x hx => ?_
  rw [Finset.mem_range] at hx
  unfold summand
  by_cases h : 1024 * b + x < N
  · rw [if_pos h, dif_pos h]
    have e0 : (⟨x % 1024, Nat.mod_lt _ (by decide)⟩ : Fin 1024) = ⟨x, hx⟩ := Fin.ext (Nat.mod_eq_of_lt hx)
    have e3 : (at2 X3 x l : EReal) = Q (ix2 ⟨1024 * b + x, h⟩ l) := by unfold at2; rw [e0]; exact h3 ⟨x, hx⟩ l h
    have e4 : (at2 (marks X4) x l : EReal) = mark Y ⟨1024 * b + x, h⟩ l := by
      unfold at2 mark; rw [e0, marks_apply, h4 ⟨x, hx⟩ _ h]
    rw [e3, e4, hE]
  · rw [if_neg h, dif_neg h]

/-- The sum of the contributions of the first `n` blocks. -/
def blocks (g : Fin 11 → Fin 1280 → ℕ → EReal) (k : Fin 11) (l : Fin 1280) (n : ℕ) : EReal := ∑ r ∈ Finset.range (1024 * n), g k l r

/-- What an output holds after the point of row-block `b` and threshold `k`: the thresholds up to `k` have had the block added. -/
def Holds (g : Fin 11 → Fin 1280 → ℕ → EReal) (b k : ℕ) (X : Vec Ideal S11x1280 .f32) : Prop :=
  ∀ (k' : Fin 11) (l : Fin 1280), (X (ix2 k' l) : EReal) = blocks g k' l (if k'.val ≤ k then b + 1 else b)

/-- One point adds its block to its threshold's row. -/
theorem upd_holds (g : Fin 11 → Fin 1280 → ℕ → EReal) (b : ℕ) (k : Fin 11) (a : FVec Ideal S8x1280 .f32) (Y : Vec Ideal S11x1280 .f32)
    (hY : ¬(b = 0 ∧ k.val = 0) → ∀ (k' : Fin 11) (l : Fin 1280), (Y (ix2 k' l) : EReal) = blocks g k' l (if k'.val < k.val then b + 1 else b))
    (hs : ∀ l, ∑ s : Fin 8, (a (ix2 s l) : EReal) = ∑ x ∈ Finset.range 1024, g k l (1024 * b + x)) :
    Holds g b k.val (upd k a (start b k Y)) := by
  have h0 : ∀ (k' : Fin 11) (l : Fin 1280), (start b k Y (ix2 k' l) : EReal) = blocks g k' l (if k'.val < k.val then b + 1 else b) := by
    intro k' l
    unfold start
    by_cases h : b = 0 ∧ k.val = 0
    · rw [if_pos h, zeros_apply, h.1, h.2, if_neg (Nat.not_lt_zero _)]; rfl
    · rw [if_neg h]; exact hY h k' l
  intro k' l
  by_cases hk : k' = k
  · subst hk
    have e : (upd k' a (start b k' Y) (ix2 k' l) : EReal) = addRow a (fun x => start b k' Y (ix2 k' (x 1))) (ix2 0 l) := if_pos rfl
    rw [e, addRow_apply, hs]
    refine (congrArg (· + _) (h0 k' l)).trans ?_
    rw [if_neg (Nat.lt_irrefl _), if_pos le_rfl]
    unfold blocks
    rw [Nat.mul_succ, Finset.sum_range_add]
  · have e : (upd k a (start b k Y) (ix2 k' l) : EReal) = start b k Y (ix2 k' l) := if_neg fun h => hk (Fin.ext h)
    have hv : k'.val ≠ k.val := fun h => hk (Fin.ext h)
    rw [e, h0]
    congr 1
    by_cases h : k'.val < k.val
    · rw [if_pos h, if_pos h.le]
    · rw [if_neg h, if_neg (by omega)]

/-- From one point to the next. -/
theorem holds_succ (g : Fin 11 → Fin 1280 → ℕ → EReal) (u : ℕ) (Y : Vec Ideal S11x1280 .f32) (h : Holds g (u / 11) (u % 11) Y) (k' : Fin 11) (l : Fin 1280) :
    (Y (ix2 k' l) : EReal) = blocks g k' l (if k'.val < (u + 1) % 11 then (u + 1) / 11 + 1 else (u + 1) / 11) := by
  rw [h k' l]
  congr 1
  have := k'.isLt
  split <;> split <;> omega

/-- All eight blocks: every row of the array. -/
theorem blocks_all {N : ℕ} (hN : N ≤ 8192) (Q : (⟨2, ![N, 1280]⟩ : Shape).Idx → EReal) (Y : (⟨2, ![N, 128]⟩ : Shape).Idx → BitVec 32) (E : Fin 11 → EReal) (i : Fin 3)
    (k : Fin 11) (l : Fin 1280) :
    blocks (fun k l => summand Q Y (E k) i l) k l 8 = ∑ r : Fin N, pick (E k) (val i (Q (ix2 r l)) (mark Y r l)) (Q (ix2 r l)) := by
  have h : 1024 * 8 = N + (8192 - N) := by omega
  unfold blocks
  rw [h, Finset.sum_range_add, Finset.sum_eq_zero (s := Finset.range (8192 - N)), add_zero, Finset.sum_range]
  · exact Finset.sum_congr rfl fun r _ => dif_pos r.isLt
  · intro x _
    exact dif_neg (by omega)

section Induction

open Idealize.SL Idealize.SL.RA

variable {nD : ℕ} {τ : Topo} {sig : RefSig} {Val : EltTy → Type} {Λ₀ : Idealize.SL.Sem.Labels} {Ix : Type} [DecidableEq Ix] {Name : Type} [DecidableEq Name]
  {U : Type} [URA U] {Lvl : Type} {cfg : Pipeline.Cfg sig Λ₀} {c : Dev nD} (rd : RDat τ Val Ix Name U Lvl cfg c)

/-- What an output window's buffer holds after each point, by induction, for a window that is never fetched and written back at the last point only. -/
theorem leaves_of (w : Fin cfg.W) (Inv : ℕ → ((cfg.win w).block.Idx → Val (cfg.win w).elt) → Prop) (hf : ∀ t, (cfg.win w).fetch t = false)
    (hl : ∀ t : Fin cfg.N, t.val + 1 < cfg.N → (cfg.win w).flush t = false) (h0 : ∀ t Y X, t.val = 0 → rd.after w t Y X → Inv 0 X)
    (hs : ∀ t u Y X, t.val = u + 1 → Inv u Y → rd.after w t Y X → Inv (u + 1) X) :
    ∀ (n : ℕ) (t : Fin cfg.N) X, t.val = n → rd.Leaves w t X → Inv n X
  | 0, t, X, ht, ⟨Y, _, hX⟩ => h0 t Y X ht hX
  | n + 1, t, X, ht, ⟨Y, hY, hX⟩ => by
    rw [rd.finds_of_pos (hf t) (by omega)] at hY
    rcases hY with hY | hY
    · rw [hl _ (by have := t.isLt; simp only; omega)] at hY
      exact absurd hY Bool.false_ne_true
    · exact hs t n Y X ht (leaves_of w Inv hf hl h0 hs n _ Y (by simp only; omega) hY) hX

/-- A coordinate of a block that lies in the array is one the transfer moves. -/
theorem lt_extent {ix k d j : ℕ} (hj : j < k) (h : ix * k + j < d) : j < (Pipeline.Clip.of ix k d).extent k := by
  unfold Pipeline.Clip.of
  split
  · exact hj
  · show j < d - ix * k
    omega

/-- Where a fetched block lies in the array its buffer holds the array. -/
theorem fill_read {G : Pipeline.Grid} (w : Pipeline.Window sig G) (t : Fin G.N) (d : w.block.Idx → Val w.elt) (f : w.arr.view.ty.Contents Val) (j : w.block.Idx) (p : w.shape.Idx)
    (hk : w.kind = .blocked) (hj : ∀ a, (j a).val < w.xsize (G.coords t) a) (hp : ∀ a, (p a).val = w.index t a * w.size a + (j a).val) :
    w.fill (G.coords t) d ((w.blk t).view.read Val f) j = w.arr.view.read Val f p := by
  unfold Pipeline.Window.fill
  rw [dif_pos ((w.moved_iff _ _).mpr hj)]
  show w.arr.view.read Val f ((w.rect t).emb _) = _
  refine congrArg (w.arr.view.read Val f) (funext fun a => Fin.ext ?_)
  rw [w.rect_emb_val t _ a hk, hp a]

end Induction

end Cert.KernelIdeal.Part

end
-- ==== Proof.Part.Value0.lean ====
/- Over the extended reals: what streaming call 0 leaves in its three output arrays. -/
module

public import proofs.«01_k».proof.Proof.Part.Totals
public import proofs.«01_k».proof.Proof.Part.Data0

@[expose] public section

set_option maxRecDepth 8192

noncomputable section

namespace Cert.KernelIdeal.Part

open Idealize.ShloMosaic Idealize.ShloMosaic.TcCoe
open Idealize.SL Idealize.SL.RA
open Idealize.ShloMosaic.Pipeline (RDat)
open Cert.KernelIdeal Cert.KernelIdeal.Gen
open scoped BigOperators

variable {U : Type} [URA U]

/-- The call's three operands: the thresholds, the elements and the labels. -/
def edges0 (W : Valuation τ sig (Elt Ideal)) : Fin 11 → EReal := fun k => (W (Proc.devRef .tc main_v1) : Vec Ideal S1x11 .f32) (ix2 0 k)
def elems0 (W : Valuation τ sig (Elt Ideal)) : (⟨2, ![7812, 1280]⟩ : Shape).Idx → EReal := (W (Proc.devRef .tc main_v3) : Vec Ideal S7812x1280 .f32)
def labels0 (W : Valuation τ sig (Elt Ideal)) : (⟨2, ![7812, 128]⟩ : Shape).Idx → BitVec 32 := (W (Proc.devRef .tc main_v5) : Vec Ideal S7812x128 .i32)

/-- The sum `i` of lane `l` over threshold `k`, the whole array. -/
def total0 (W : Valuation τ sig (Elt Ideal)) (i : Fin 3) (k : Fin 11) (l : Fin 1280) : EReal :=
  ∑ r : Fin 7812, pick (edges0 W k) (val i (elems0 W (ix2 r l)) (mark (labels0 W) r l)) (elems0 W (ix2 r l))

theorem found_edges0 (c : Dev nD) (W : Valuation τ sig (Elt Ideal)) (t : Fin grid0.N) (X2 : Vec Ideal S1x11 .f32) (h : Found0 c W 0 t X2) (k : Fin 11) :
    (X2 (ix2 0 k) : EReal) = edges0 W k := by
  obtain ⟨d, rfl⟩ := h
  refine fill_read (Val := Elt Ideal) (cfg0.win 0) t d _ (ix2 0 k) (ix2 0 k) rfl (fun a => ?_) (fun a => ?_)
  · exact ((ix2 (0 : Fin 1) k) a).isLt
  · match a with
    | ⟨0, _⟩ => rfl
    | ⟨1, _⟩ => exact (show k.val = 0 * 11 + k.val by omega)

/-- Where a point's blocks lie. -/
theorem place1_0 (i : grid0.Coords) : cc0_transform_1 i = ![(i 0).val, 0] := by
  have h : (BitVec.ofNat 32 (i 0).val).toNat = (i 0).val := Nat.mod_eq_of_lt (Nat.lt_trans (i 0).isLt (by decide))
  exact congrArg (fun n : ℕ => ![n, 0]) h

theorem place2_0 (i : grid0.Coords) : cc0_transform_2 i = ![(i 0).val, 0] := by
  have h : (BitVec.ofNat 32 (i 0).val).toNat = (i 0).val := Nat.mod_eq_of_lt (Nat.lt_trans (i 0).isLt (by decide))
  exact congrArg (fun n : ℕ => ![n, 0]) h

theorem found_elems0 (c : Dev nD) (W : Valuation τ sig (Elt Ideal)) (t : Fin grid0.N) (X3 : Vec Ideal S1024x1280 .f32) (h : Found0 c W 1 t X3) (x : Fin 1024) (l : Fin 1280)
    (hx : 1024 * (grid0.coords t 0).val + x.val < 7812) : (X3 (ix2 x l) : EReal) = elems0 W (ix2 ⟨1024 * (grid0.coords t 0).val + x.val, hx⟩ l) := by
  obtain ⟨d, rfl⟩ := h
  have hc : (cfg0.win 1).clip (grid0.coords t) = fun a => Pipeline.Clip.of (![(grid0.coords t 0).val, 0] a) (S1024x1280.size a) (S7812x1280.size a) := place1_0 (grid0.coords t) ▸ rfl
  have hi : (cfg0.win 1).index t = ![(grid0.coords t 0).val, 0] := place1_0 (grid0.coords t)
  refine fill_read (Val := Elt Ideal) (cfg0.win 1) t d _ (ix2 x l) (ix2 ⟨1024 * (grid0.coords t 0).val + x.val, hx⟩ l) rfl (fun a => ?_) (fun a => ?_)
  · unfold Pipeline.Window.xsize
    rw [hc]
    match a with
    | ⟨0, _⟩ => exact lt_extent (ix := (grid0.coords t 0).val) (k := 1024) (d := 7812) (j := x.val) x.isLt (by omega)
    | ⟨1, _⟩ => exact lt_extent (ix := 0) (k := 1280) (d := 1280) (j := l.val) l.isLt (by omega)
  · rw [hi]
    match a with
    | ⟨0, _⟩ => exact (show 1024 * (grid0.coords t 0).val + x.val = (grid0.coords t 0).val * 1024 + x.val by omega)
    | ⟨1, _⟩ => exact (show l.val = 0 * 1280 + l.val by omega)

theorem found_labels0 (c : Dev nD) (W : Valuation τ sig (Elt Ideal)) (t : Fin grid0.N) (X4 : Vec Ideal S1024x128 .i32) (h : Found0 c W 2 t X4) (x : Fin 1024) (s : Fin 128)
    (hx : 1024 * (grid0.coords t 0).val + x.val < 7812) : (X4 (ix2 x s) : BitVec 32) = labels0 W (ix2 ⟨1024 * (grid0.coords t 0).val + x.val, hx⟩ s) := by
  obtain ⟨d, rfl⟩ := h
  have hc : (cfg0.win 2).clip (grid0.coords t) = fun a => Pipeline.Clip.of (![(grid0.coords t 0).val, 0] a) (S1024x128.size a) (S7812x128.size a) := place2_0 (grid0.coords t) ▸ rfl
  have hi : (cfg0.win 2).index t = ![(grid0.coords t 0).val, 0] := place2_0 (grid0.coords t)
  refine fill_read (Val := Elt Ideal) (cfg0.win 2) t d _ (ix2 x s) (ix2 ⟨1024 * (grid0.coords t 0).val + x.val, hx⟩ s) rfl (fun a => ?_) (fun a => ?_)
  · unfold Pipeline.Window.xsize
    rw [hc]
    match a with
    | ⟨0, _⟩ => exact lt_extent (ix := (grid0.coords t 0).val) (k := 1024) (d := 7812) (j := x.val) x.isLt (by omega)
    | ⟨1, _⟩ => exact lt_extent (ix := 0) (k := 128) (d := 128) (j := s.val) s.isLt (by omega)
  · rw [hi]
    match a with
    | ⟨0, _⟩ => exact (show 1024 * (grid0.coords t 0).val + x.val = (grid0.coords t 0).val * 1024 + x.val by omega)
    | ⟨1, _⟩ => exact (show s.val = 0 * 128 + s.val by omega)

/-- What row `r` contributes. -/
abbrev part0 (W : Valuation τ sig (Elt Ideal)) (i : Fin 3) : Fin 11 → Fin 1280 → ℕ → EReal := fun k l => summand (elems0 W) (labels0 W) (edges0 W k) i l

/-- The column sums of a point are its block's contributions. -/
theorem sums0 (c : Dev nD) (W : Valuation τ sig (Elt Ideal)) (hE : ∀ k, 0 ≤ edges0 W k) (i : Fin 3) (t : Fin grid0.N) (a : Acc Ideal) (h : Sums0 c W t a) (l : Fin 1280) :
    ∑ s : Fin 8, (comp i a (ix2 s l) : EReal) = ∑ x ∈ Finset.range 1024, part0 W i (grid0.coords t 1) l (1024 * (grid0.coords t 0).val + x) := by
  obtain ⟨X2, X3, X4, h2, h3, h4, rfl⟩ := h
  exact point_total (.inl rfl) _ (grid0.coords t 0).isLt _ _ (hE _) _ _ X2 X3 X4 (found_edges0 c W t X2 h2 _)
    (fun x l hx => found_elems0 c W t X3 h3 x l hx) (fun x s hx => found_labels0 c W t X4 h4 x s hx) i l

/-- A point adds its block to what the point before left. -/
theorem adds0 (c : Dev nD) (W : Valuation τ sig (Elt Ideal)) (hE : ∀ k, 0 ≤ edges0 W k) (i : Fin 3) (t : Fin grid0.N) (Y X : Vec Ideal S11x1280 .f32)
    (hY : t.val ≠ 0 → Holds (part0 W i) ((t.val - 1) / 11) ((t.val - 1) % 11) Y) (h : Adds0 c W (comp i) t Y X) : Holds (part0 W i) (t.val / 11) (t.val % 11) X := by
  obtain ⟨a, ha, rfl⟩ := h
  rw [← (coords0 t).1, ← (coords0 t).2]
  refine upd_holds _ _ _ _ _ (fun h k' l => ?_) (sums0 c W hE i t a ha)
  rw [(coords0 t).1, (coords0 t).2] at h ⊢
  obtain ⟨u, hu⟩ := Nat.exists_eq_succ_of_ne_zero (show t.val ≠ 0 from fun h' => h (by rw [h']; exact ⟨rfl, rfl⟩))
  have hY := hY (by omega)
  rw [hu] at hY ⊢
  exact holds_succ _ u Y hY k' l

/-- What an output whose running vector is `i` of the three holds after the last point. -/
theorem leaves0_0 (c : Dev nD) (W : Dev nD → Valuation τ sig (Elt Ideal)) (hE : ∀ k, 0 ≤ edges0 (W c) k) (X : Vec Ideal S11x1280 .f32)
    (h : (rd0 (U := U) W c).Leaves 3 ⟨87, by decide⟩ X) : Holds (part0 (W c) 0) (87 / 11) (87 % 11) X :=
  leaves_of (rd0 (U := U) W c) 3 (fun n X => Holds (part0 (W c) 0) (n / 11) (n % 11) X) (by decide +kernel) (by decide +kernel)
    (fun t Y X ht h => by have := adds0 c (W c) hE 0 t Y X (fun h => absurd ht h) h; rwa [ht] at this)
    (fun t u Y X ht hY h => by have := adds0 c (W c) hE 0 t Y X (fun _ => by rw [ht]; exact hY) h; rwa [ht] at this) 87 _ X rfl h

theorem leaves0_1 (c : Dev nD) (W : Dev nD → Valuation τ sig (Elt Ideal)) (hE : ∀ k, 0 ≤ edges0 (W c) k) (X : Vec Ideal S11x1280 .f32)
    (h : (rd0 (U := U) W c).Leaves 4 ⟨87, by decide⟩ X) : Holds (part0 (W c) 1) (87 / 11) (87 % 11) X :=
  leaves_of (rd0 (U := U) W c) 4 (fun n X => Holds (part0 (W c) 1) (n / 11) (n % 11) X) (by decide +kernel) (by decide +kernel)
    (fun t Y X ht h => by have := adds0 c (W c) hE 1 t Y X (fun h => absurd ht h) h; rwa [ht] at this)
    (fun t u Y X ht hY h => by have := adds0 c (W c) hE 1 t Y X (fun _ => by rw [ht]; exact hY) h; rwa [ht] at this) 87 _ X rfl h

theorem leaves0_2 (c : Dev nD) (W : Dev nD → Valuation τ sig (Elt Ideal)) (hE : ∀ k, 0 ≤ edges0 (W c) k) (X : Vec Ideal S11x1280 .f32)
    (h : (rd0 (U := U) W c).Leaves 5 ⟨87, by decide⟩ X) : Holds (part0 (W c) 2) (87 / 11) (87 % 11) X :=
  leaves_of (rd0 (U := U) W c) 5 (fun n X => Holds (part0 (W c) 2) (n / 11) (n % 11) X) (by decide +kernel) (by decide +kernel)
    (fun t Y X ht h => by have := adds0 c (W c) hE 2 t Y X (fun h => absurd ht h) h; rwa [ht] at this)
    (fun t u Y X ht hY h => by have := adds0 c (W c) hE 2 t Y X (fun _ => by rw [ht]; exact hY) h; rwa [ht] at this) 87 _ X rfl h

/-- Every threshold has had every row added. -/
theorem holds0 (W : Valuation τ sig (Elt Ideal)) (i : Fin 3) (X : Vec Ideal S11x1280 .f32) (h : Holds (part0 W i) (87 / 11) (87 % 11) X) (k : Fin 11) (l : Fin 1280) :
    (X (ix2 k l) : EReal) = total0 W i k l := by
  rw [h k l, if_pos (by have := k.isLt; omega)]
  exact blocks_all (by omega) _ _ _ i k l

/-- What the three output arrays hold once the call is done. -/
theorem arr0_0 (c : Dev nD) (W : Dev nD → Valuation τ sig (Elt Ideal)) (hE : ∀ k, 0 ≤ edges0 (W c) k) (G : Vec Ideal S11x1280 .f32)
    (h : (rd0 (U := U) W c).ArrAt 3 cfg0.N G) (k : Fin 11) (l : Fin 1280) : (G (ix2 k l) : EReal) = total0 (W c) 0 k l := by
  obtain ⟨X, hX, hG⟩ := RDat.ArrAt.emb_eq_of_wholeAt h (t₀ := ⟨87, by decide⟩) (by decide +kernel)
  exact (hG (ix2 k l)).trans (holds0 (W c) 0 X (leaves0_0 c W hE X hX) k l)

theorem arr0_1 (c : Dev nD) (W : Dev nD → Valuation τ sig (Elt Ideal)) (hE : ∀ k, 0 ≤ edges0 (W c) k) (G : Vec Ideal S11x1280 .f32)
    (h : (rd0 (U := U) W c).ArrAt 4 cfg0.N G) (k : Fin 11) (l : Fin 1280) : (G (ix2 k l) : EReal) = total0 (W c) 1 k l := by
  obtain ⟨X, hX, hG⟩ := RDat.ArrAt.emb_eq_of_wholeAt h (t₀ := ⟨87, by decide⟩) (by decide +kernel)
  exact (hG (ix2 k l)).trans (holds0 (W c) 1 X (leaves0_1 c W hE X hX) k l)

theorem arr0_2 (c : Dev nD) (W : Dev nD → Valuation τ sig (Elt Ideal)) (hE : ∀ k, 0 ≤ edges0 (W c) k) (G : Vec Ideal S11x1280 .f32)
    (h : (rd0 (U := U) W c).ArrAt 5 cfg0.N G) (k : Fin 11) (l : Fin 1280) : (G (ix2 k l) : EReal) = total0 (W c) 2 k l := by
  obtain ⟨X, hX, hG⟩ := RDat.ArrAt.emb_eq_of_wholeAt h (t₀ := ⟨87, by decide⟩) (by decide +kernel)
  exact (hG (ix2 k l)).trans (holds0 (W c) 2 X (leaves0_2 c W hE X hX) k l)

end Cert.KernelIdeal.Part

end
-- ==== Proof.Part.Value1.lean ====
/- Over the extended reals: what streaming call 1 leaves in its three output arrays. -/
module

public import proofs.«01_k».proof.Proof.Part.Totals
public import proofs.«01_k».proof.Proof.Part.Data1

@[expose] public section

set_option maxRecDepth 8192

noncomputable section

namespace Cert.KernelIdeal.Part

open Idealize.ShloMosaic Idealize.ShloMosaic.TcCoe
open Idealize.SL Idealize.SL.RA
open Idealize.ShloMosaic.Pipeline (RDat)
open Cert.KernelIdeal Cert.KernelIdeal.Gen
open scoped BigOperators

variable {U : Type} [URA U]

/-- The call's three operands: the thresholds, the elements and the labels. -/
def edges1 (W : Valuation τ sig (Elt Ideal)) : Fin 11 → EReal := fun k => (W (Proc.devRef .tc main_v1) : Vec Ideal S1x11 .f32) (ix2 0 k)
def elems1 (W : Valuation τ sig (Elt Ideal)) : (⟨2, ![7813, 1280]⟩ : Shape).Idx → EReal := (W (Proc.devRef .tc main_v8) : Vec Ideal S7813x1280 .f32)
def labels1 (W : Valuation τ sig (Elt Ideal)) : (⟨2, ![7813, 128]⟩ : Shape).Idx → BitVec 32 := (W (Proc.devRef .tc main_v10) : Vec Ideal S7813x128 .i32)

/-- The sum `i` of lane `l` over threshold `k`, the whole array. -/
def total1 (W : Valuation τ sig (Elt Ideal)) (i : Fin 3) (k : Fin 11) (l : Fin 1280) : EReal :=
  ∑ r : Fin 7813, pick (edges1 W k) (val i (elems1 W (ix2 r l)) (mark (labels1 W) r l)) (elems1 W (ix2 r l))

theorem found_edges1 (c : Dev nD) (W : Valuation τ sig (Elt Ideal)) (t : Fin grid1.N) (X2 : Vec Ideal S1x11 .f32) (h : Found1 c W 0 t X2) (k : Fin 11) :
    (X2 (ix2 0 k) : EReal) = edges1 W k := by
  obtain ⟨d, rfl⟩ := h
  refine fill_read (Val := Elt Ideal) (cfg1.win 0) t d _ (ix2 0 k) (ix2 0 k) rfl (fun a => ?_) (fun a => ?_)
  · exact ((ix2 (0 : Fin 1) k) a).isLt
  · match a with
    | ⟨0, _⟩ => rfl
    | ⟨1, _⟩ => exact (show k.val = 0 * 11 + k.val by omega)

/-- Where a point's blocks lie. -/
theorem place1_1 (i : grid1.Coords) : cc1_transform_1 i = ![(i 0).val, 0] := by
  have h : (BitVec.ofNat 32 (i 0).val).toNat = (i 0).val := Nat.mod_eq_of_lt (Nat.lt_trans (i 0).isLt (by decide))
  exact congrArg (fun n : ℕ => ![n, 0]) h

theorem place2_1 (i : grid1.Coords) : cc1_transform_2 i = ![(i 0).val, 0] := by
  have h : (BitVec.ofNat 32 (i 0).val).toNat = (i 0).val := Nat.mod_eq_of_lt (Nat.lt_trans (i 0).isLt (by decide))
  exact congrArg (fun n : ℕ => ![n, 0]) h

theorem found_elems1 (c : Dev nD) (W : Valuation τ sig (Elt Ideal)) (t : Fin grid1.N) (X3 : Vec Ideal S1024x1280 .f32) (h : Found1 c W 1 t X3) (x : Fin 1024) (l : Fin 1280)
    (hx : 1024 * (grid1.coords t 0).val + x.val < 7813) : (X3 (ix2 x l) : EReal) = elems1 W (ix2 ⟨1024 * (grid1.coords t 0).val + x.val, hx⟩ l) := by
  obtain ⟨d, rfl⟩ := h
  have hc : (cfg1.win 1).clip (grid1.coords t) = fun a => Pipeline.Clip.of (![(grid1.coords t 0).val, 0] a) (S1024x1280.size a) (S7813x1280.size a) := place1_1 (grid1.coords t) ▸ rfl
  have hi : (cfg1.win 1).index t = ![(grid1.coords t 0).val, 0] := place1_1 (grid1.coords t)
  refine fill_read (Val := Elt Ideal) (cfg1.win 1) t d _ (ix2 x l) (ix2 ⟨1024 * (grid1.coords t 0).val + x.val, hx⟩ l) rfl (fun a => ?_) (fun a => ?_)
  · unfold Pipeline.Window.xsize
    rw [hc]
    match a with
    | ⟨0, _⟩ => exact lt_extent (ix := (grid1.coords t 0).val) (k := 1024) (d := 7813) (j := x.val) x.isLt (by omega)
    | ⟨1, _⟩ => exact lt_extent (ix := 0) (k := 1280) (d := 1280) (j := l.val) l.isLt (by omega)
  · rw [hi]
    match a with
    | ⟨0, _⟩ => exact (show 1024 * (grid1.coords t 0).val + x.val = (grid1.coords t 0).val * 1024 + x.val by omega)
    | ⟨1, _⟩ => exact (show l.val = 0 * 1280 + l.val by omega)

theorem found_labels1 (c : Dev nD) (W : Valuation τ sig (Elt Ideal)) (t : Fin grid1.N) (X4 : Vec Ideal S1024x128 .i32) (h : Found1 c W 2 t X4) (x : Fin 1024) (s : Fin 128)
    (hx : 1024 * (grid1.coords t 0).val + x.val < 7813) : (X4 (ix2 x s) : BitVec 32) = labels1 W (ix2 ⟨1024 * (grid1.coords t 0).val + x.val, hx⟩ s) := by
  obtain ⟨d, rfl⟩ := h
  have hc : (cfg1.win 2).clip (grid1.coords t) = fun a => Pipeline.Clip.of (![(grid1.coords t 0).val, 0] a) (S1024x128.size a) (S7813x128.size a) := place2_1 (grid1.coords t) ▸ rfl
  have hi : (cfg1.win 2).index t = ![(grid1.coords t 0).val, 0] := place2_1 (grid1.coords t)
  refine fill_read (Val := Elt Ideal) (cfg1.win 2) t d _ (ix2 x s) (ix2 ⟨1024 * (grid1.coords t 0).val + x.val, hx⟩ s) rfl (fun a => ?_) (fun a => ?_)
  · unfold Pipeline.Window.xsize
    rw [hc]
    match a with
    | ⟨0, _⟩ => exact lt_extent (ix := (grid1.coords t 0).val) (k := 1024) (d := 7813) (j := x.val) x.isLt (by omega)
    | ⟨1, _⟩ => exact lt_extent (ix := 0) (k := 128) (d := 128) (j := s.val) s.isLt (by omega)
  · rw [hi]
    match a with
    | ⟨0, _⟩ => exact (show 1024 * (grid1.coords t 0).val + x.val = (grid1.coords t 0).val * 1024 + x.val by omega)
    | ⟨1, _⟩ => exact (show s.val = 0 * 128 + s.val by omega)

/-- What row `r` contributes. -/
abbrev part1 (W : Valuation τ sig (Elt Ideal)) (i : Fin 3) : Fin 11 → Fin 1280 → ℕ → EReal := fun k l => summand (elems1 W) (labels1 W) (edges1 W k) i l

/-- The column sums of a point are its block's contributions. -/
theorem sums1 (c : Dev nD) (W : Valuation τ sig (Elt Ideal)) (hE : ∀ k, 0 ≤ edges1 W k) (i : Fin 3) (t : Fin grid1.N) (a : Acc Ideal) (h : Sums1 c W t a) (l : Fin 1280) :
    ∑ s : Fin 8, (comp i a (ix2 s l) : EReal) = ∑ x ∈ Finset.range 1024, part1 W i (grid1.coords t 1) l (1024 * (grid1.coords t 0).val + x) := by
  obtain ⟨X2, X3, X4, h2, h3, h4, rfl⟩ := h
  exact point_total (.inr rfl) _ (grid1.coords t 0).isLt _ _ (hE _) _ _ X2 X3 X4 (found_edges1 c W t X2 h2 _)
    (fun x l hx => found_elems1 c W t X3 h3 x l hx) (fun x s hx => found_labels1 c W t X4 h4 x s hx) i l

/-- A point adds its block to what the point before left. -/
theorem adds1 (c : Dev nD) (W : Valuation τ sig (Elt Ideal)) (hE : ∀ k, 0 ≤ edges1 W k) (i : Fin 3) (t : Fin grid1.N) (Y X : Vec Ideal S11x1280 .f32)
    (hY : t.val ≠ 0 → Holds (part1 W i) ((t.val - 1) / 11) ((t.val - 1) % 11) Y) (h : Adds1 c W (comp i) t Y X) : Holds (part1 W i) (t.val / 11) (t.val % 11) X := by
  obtain ⟨a, ha, rfl⟩ := h
  rw [← (coords1 t).1, ← (coords1 t).2]
  refine upd_holds _ _ _ _ _ (fun h k' l => ?_) (sums1 c W hE i t a ha)
  rw [(coords1 t).1, (coords1 t).2] at h ⊢
  obtain ⟨u, hu⟩ := Nat.exists_eq_succ_of_ne_zero (show t.val ≠ 0 from fun h' => h (by rw [h']; exact ⟨rfl, rfl⟩))
  have hY := hY (by omega)
  rw [hu] at hY ⊢
  exact holds_succ _ u Y hY k' l

/-- What an output whose running vector is `i` of the three holds after the last point. -/
theorem leaves1_0 (c : Dev nD) (W : Dev nD → Valuation τ sig (Elt Ideal)) (hE : ∀ k, 0 ≤ edges1 (W c) k) (X : Vec Ideal S11x1280 .f32)
    (h : (rd1 (U := U) W c).Leaves 3 ⟨87, by decide⟩ X) : Holds (part1 (W c) 0) (87 / 11) (87 % 11) X :=
  leaves_of (rd1 (U := U) W c) 3 (fun n X => Holds (part1 (W c) 0) (n / 11) (n % 11) X) (by decide +kernel) (by decide +kernel)
    (fun t Y X ht h => by have := adds1 c (W c) hE 0 t Y X (fun h => absurd ht h) h; rwa [ht] at this)
    (fun t u Y X ht hY h => by have := adds1 c (W c) hE 0 t Y X (fun _ => by rw [ht]; exact hY) h; rwa [ht] at this) 87 _ X rfl h

theorem leaves1_1 (c : Dev nD) (W : Dev nD → Valuation τ sig (Elt Ideal)) (hE : ∀ k, 0 ≤ edges1 (W c) k) (X : Vec Ideal S11x1280 .f32)
    (h : (rd1 (U := U) W c).Leaves 4 ⟨87, by decide⟩ X) : Holds (part1 (W c) 1) (87 / 11) (87 % 11) X :=
  leaves_of (rd1 (U := U) W c) 4 (fun n X => Holds (part1 (W c) 1) (n / 11) (n % 11) X) (by decide +kernel) (by decide +kernel)
    (fun t Y X ht h => by have := adds1 c (W c) hE 1 t Y X (fun h => absurd ht h) h; rwa [ht] at this)
    (fun t u Y X ht hY h => by have := adds1 c (W c) hE 1 t Y X (fun _ => by rw [ht]; exact hY) h; rwa [ht] at this) 87 _ X rfl h

theorem leaves1_2 (c : Dev nD) (W : Dev nD → Valuation τ sig (Elt Ideal)) (hE : ∀ k, 0 ≤ edges1 (W c) k) (X : Vec Ideal S11x1280 .f32)
    (h : (rd1 (U := U) W c).Leaves 5 ⟨87, by decide⟩ X) : Holds (part1 (W c) 2) (87 / 11) (87 % 11) X :=
  leaves_of (rd1 (U := U) W c) 5 (fun n X => Holds (part1 (W c) 2) (n / 11) (n % 11) X) (by decide +kernel) (by decide +kernel)
    (fun t Y X ht h => by have := adds1 c (W c) hE 2 t Y X (fun h => absurd ht h) h; rwa [ht] at this)
    (fun t u Y X ht hY h => by have := adds1 c (W c) hE 2 t Y X (fun _ => by rw [ht]; exact hY) h; rwa [ht] at this) 87 _ X rfl h

/-- Every threshold has had every row added. -/
theorem holds1 (W : Valuation τ sig (Elt Ideal)) (i : Fin 3) (X : Vec Ideal S11x1280 .f32) (h : Holds (part1 W i) (87 / 11) (87 % 11) X) (k : Fin 11) (l : Fin 1280) :
    (X (ix2 k l) : EReal) = total1 W i k l := by
  rw [h k l, if_pos (by have := k.isLt; omega)]
  exact blocks_all (by omega) _ _ _ i k l

/-- What the three output arrays hold once the call is done. -/
theorem arr1_0 (c : Dev nD) (W : Dev nD → Valuation τ sig (Elt Ideal)) (hE : ∀ k, 0 ≤ edges1 (W c) k) (G : Vec Ideal S11x1280 .f32)
    (h : (rd1 (U := U) W c).ArrAt 3 cfg1.N G) (k : Fin 11) (l : Fin 1280) : (G (ix2 k l) : EReal) = total1 (W c) 0 k l := by
  obtain ⟨X, hX, hG⟩ := RDat.ArrAt.emb_eq_of_wholeAt h (t₀ := ⟨87, by decide⟩) (by decide +kernel)
  exact (hG (ix2 k l)).trans (holds1 (W c) 0 X (leaves1_0 c W hE X hX) k l)

theorem arr1_1 (c : Dev nD) (W : Dev nD → Valuation τ sig (Elt Ideal)) (hE : ∀ k, 0 ≤ edges1 (W c) k) (G : Vec Ideal S11x1280 .f32)
    (h : (rd1 (U := U) W c).ArrAt 4 cfg1.N G) (k : Fin 11) (l : Fin 1280) : (G (ix2 k l) : EReal) = total1 (W c) 1 k l := by
  obtain ⟨X, hX, hG⟩ := RDat.ArrAt.emb_eq_of_wholeAt h (t₀ := ⟨87, by decide⟩) (by decide +kernel)
  exact (hG (ix2 k l)).trans (holds1 (W c) 1 X (leaves1_1 c W hE X hX) k l)

theorem arr1_2 (c : Dev nD) (W : Dev nD → Valuation τ sig (Elt Ideal)) (hE : ∀ k, 0 ≤ edges1 (W c) k) (G : Vec Ideal S11x1280 .f32)
    (h : (rd1 (U := U) W c).ArrAt 5 cfg1.N G) (k : Fin 11) (l : Fin 1280) : (G (ix2 k l) : EReal) = total1 (W c) 2 k l := by
  obtain ⟨X, hX, hG⟩ := RDat.ArrAt.emb_eq_of_wholeAt h (t₀ := ⟨87, by decide⟩) (by decide +kernel)
  exact (hG (ix2 k l)).trans (holds1 (W c) 2 X (leaves1_2 c W hE X hX) k l)

end Cert.KernelIdeal.Part

end
-- ==== Proof.Part.Bins.lean ====
/-
  The calibration error over the real numbers, and the arithmetic that both programs' values come down to: ten bins with
  edges k / 10, for each class and bin the number of its samples, the sum of their probabilities and of their match
  marks, and the root mean square gap between the two sums.
-/
module

public import proofs.«01_k».proof.Proof.Part.Totals

@[expose] public section

noncomputable section

namespace Cert.KernelIdeal.Part

open Idealize.ShloMosaic
open scoped BigOperators

/-- The edge `k` of the bins. -/
def edge (k : ℕ) : ℝ := (k : ℝ) / 10

theorem edge_nonneg (k : ℕ) : (0 : EReal) ≤ (edge k : EReal) := by
  have h : (0 : ℝ) ≤ edge k := by unfold edge; positivity
  exact_mod_cast h

theorem edge_le (k : ℕ) : (edge k : EReal) ≤ (edge (k + 1) : EReal) := by
  have h : edge k ≤ edge (k + 1) := by unfold edge; push_cast; linarith
  exact_mod_cast h

/-- What a sample with probability `P` and label `q` adds to the sums of class `c`: one, its probability, its match mark. -/
def weight (i : Fin 3) (P : EReal) (q : BitVec 32) (c : ℕ) : ℝ := match i with
  | 0 => 1
  | 1 => P.toReal
  | 2 => if q = BitVec.ofNat 32 c then 1 else 0

/-- The same, of the samples above edge `k`. -/
def above (i : Fin 3) (k : ℕ) (P : EReal) (q : BitVec 32) (c : ℕ) : ℝ := if (edge k : EReal) < P then weight i P q c else 0

/-- The same, of the samples in bin `b`. -/
def within (i : Fin 3) (b : ℕ) (P : EReal) (q : BitVec 32) (c : ℕ) : ℝ := if (edge b : EReal) < P ∧ P ≤ (edge (b + 1) : EReal) then weight i P q c else 0

/-- A bin is what lies above its lower edge and not above its upper. -/
theorem above_sub (i : Fin 3) (b : ℕ) (P : EReal) (q : BitVec 32) (c : ℕ) : above i b P q c - above i (b + 1) P q c = within i b P q c := by
  unfold above within
  by_cases h1 : (edge (b + 1) : EReal) < P
  · rw [if_pos h1, if_pos (lt_of_le_of_lt (edge_le b) h1), if_neg fun h => absurd h1 (not_lt.mpr h.2), sub_self]
  · rw [if_neg h1, sub_zero]
    by_cases h0 : (edge b : EReal) < P
    · rw [if_pos h0, if_pos ⟨h0, not_lt.mp h1⟩]
    · rw [if_neg h0, if_neg fun h => h0 h.1]

/-- A number above a real and below infinity is real. -/
theorem coe_of_lt {P : EReal} (e : ℝ) (h : (e : EReal) < P) (hP : P < ⊤) : P = ((P.toReal : ℝ) : EReal) :=
  (EReal.coe_toReal hP.ne (fun hb => by rw [hb] at h; exact absurd h not_lt_bot)).symm

/-- What the extended reals pick above an edge is real. -/
theorem pick_above (i : Fin 3) (k : ℕ) (P : EReal) (hP : P < ⊤) (q : BitVec 32) (c : ℕ) :
    pick (edge k : EReal) (val i P (if q = BitVec.ofNat 32 c then 1 else 0)) P = ((above i k P q c : ℝ) : EReal) := by
  unfold pick above
  by_cases h : (edge k : EReal) < P
  · rw [if_pos h, if_pos h]
    match i with
    | 0 => rfl
    | 1 => exact coe_of_lt _ h hP
    | 2 =>
      show (if q = BitVec.ofNat 32 c then (1 : EReal) else 0) = (((if q = BitVec.ofNat 32 c then 1 else 0 : ℝ)) : EReal)
      split <;> rfl
  · rw [if_neg h, if_neg h]; rfl

/-- What the extended reals choose in a bin is real. -/
theorem choose_within (i : Fin 3) (b : ℕ) (P : EReal) (hP : P < ⊤) (q : BitVec 32) (c : ℕ) :
    (if (edge b : EReal) < P ∧ P ≤ (edge (b + 1) : EReal) then val i P (if q = BitVec.ofNat 32 c then 1 else 0) else 0) = ((within i b P q c : ℝ) : EReal) := by
  unfold within
  by_cases h : (edge b : EReal) < P ∧ P ≤ (edge (b + 1) : EReal)
  · rw [if_pos h, if_pos h]
    match i with
    | 0 => rfl
    | 1 => exact coe_of_lt _ h.1 hP
    | 2 =>
      show (if q = BitVec.ofNat 32 c then (1 : EReal) else 0) = (((if q = BitVec.ofNat 32 c then 1 else 0 : ℝ)) : EReal)
      split <;> rfl
  · rw [if_neg h, if_neg h]; rfl

/-- A sum of reals. -/
theorem coe_sum {ι : Type} (s : Finset ι) (f : ι → ℝ) : ((∑ x ∈ s, f x : ℝ) : EReal) = ∑ x ∈ s, (f x : EReal) := by
  classical
  induction s using Finset.induction_on with
  | empty => rfl
  | insert a s ha ih => rw [Finset.sum_insert ha, Finset.sum_insert ha, EReal.coe_add, ih]

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- The sum `i` of class `c` over bin `b`: the whole data set. -/
def binSum (A : (⟨2, ![2000000, 10]⟩ : Shape).Idx → EReal) (L : (⟨1, ![2000000]⟩ : Shape).Idx → BitVec 32) (i : Fin 3) (c b : Fin 10) : ℝ :=
  ∑ n : Fin 2000000, within i b.val (A (ix2 n c)) (L (ix1 n)) c.val

theorem within_zero_nonneg (b : ℕ) (P : EReal) (q : BitVec 32) (c : ℕ) : 0 ≤ within 0 b P q c := by
  unfold within
  split
  · exact zero_le_one
  · exact le_rfl

theorem binSum_nonneg (A : (⟨2, ![2000000, 10]⟩ : Shape).Idx → EReal) (L : (⟨1, ![2000000]⟩ : Shape).Idx → BitVec 32) (c b : Fin 10) : 0 ≤ binSum A L 0 c b :=
  Finset.sum_nonneg fun _ _ => within_zero_nonneg _ _ _ _

/-- What a bin with `n` samples, probability sum `f` and mark sum `a` contributes to the error of a class of `S` samples. -/
def gap (n f a S : ℝ) : ℝ := if 0 < n then (f - a) * (f - a) / n / S else 0

theorem gap_nonneg {n S : ℝ} (f a : ℝ) (hS : 0 ≤ S) : 0 ≤ gap n f a S := by
  unfold gap
  split
  · next h => exact div_nonneg (div_nonneg (mul_self_nonneg _) h.le) hS
  · exact le_rfl

/-- The calibration error of ten classes and ten bins. -/
def meanGap (n f a : Fin 10 → Fin 10 → ℝ) : ℝ := (∑ c, ∑ b, gap (n c b) (f c b) (a c b) (∑ b', n c b')) / 10

theorem meanGap_nonneg {n f a : Fin 10 → Fin 10 → ℝ} (hn : ∀ c b, 0 ≤ n c b) : 0 ≤ meanGap n f a :=
  div_nonneg (Finset.sum_nonneg fun c _ => Finset.sum_nonneg fun b _ => gap_nonneg _ _ (Finset.sum_nonneg fun b' _ => hn c b')) (by norm_num)

end Cert.KernelIdeal.Part

end
-- ==== Proof.Part.RefValue.lean ====
/- The reference's result over the extended reals, in the terms of the bins. -/
module

public import proofs.«01_k».proof.Proof.Part.Bins
public import proofs.«01_k».proof.Proof.Gen.ReferenceIdeal.Run

@[expose] public section

set_option maxRecDepth 8192

noncomputable section

namespace Cert.ReferenceIdeal.Stage

open Idealize.ShloMosaic Idealize.ShloMosaic.TcCoe
open Cert.ReferenceIdeal Cert.ReferenceIdeal.Gen Cert.ReferenceIdeal.Value
open scoped BigOperators

/-- The bins' edges. -/
def edges : FVec Ideal S11 .f32 :=
  concatenate S11 0 [⟨S10, addf (mulf (broadcastInDim S10 ![0] bcast_S1_S10_0 (shapeCast _ (id (constant S_ .f32 0x00000000#32)) shapeCasts_S_S1))
      (subf (broadcastInDim S10 ![] bcast_S_S10 (constant S_ .f32 0x3F800000#32)) (Host.divf (sitofp .f32 (iotaInDim S10 32 0)) (broadcastInDim S10 ![] bcast_S_S10 (constant S_ .f32 0x41200000#32)))))
      (mulf (broadcastInDim S10 ![0] bcast_S1_S10_0 (shapeCast _ (id (constant S_ .f32 0x3F800000#32)) shapeCasts_S_S1)) (Host.divf (sitofp .f32 (iotaInDim S10 32 0)) (broadcastInDim S10 ![] bcast_S_S10 (constant S_ .f32 0x41200000#32))))⟩,
    ⟨S1, broadcastInDim S1 ![] bcast_S_S1 (id (constant S_ .f32 0x3F800000#32))⟩] concatenates_S10_S1_S11_d0

/-- A value of each sample and class, beside every bin. -/
def beside (A : FVec Ideal S2000000x10 .f32) : FVec Ideal S2000000x10x10 .f32 :=
  broadcastInDim S2000000x10x10 ![0, 1, 2] bcast_S2000000x10x1_S2000000x10x10_0_1_2 (broadcastInDim S2000000x10x1 ![0, 1] bcast_S2000000x10_S2000000x10x1_0_1 A)

/-- Ten edges, beside every sample and class. -/
def along (e : FVec Ideal S10 .f32) : FVec Ideal S2000000x10x10 .f32 :=
  broadcastInDim S2000000x10x10 ![0, 1, 2] bcast_S1x1x10_S2000000x10x10_0_1_2 (broadcastInDim S1x1x10 ![2] bcast_S10_S1x1x10_2 e)

/-- Whether a sample lies in a bin. -/
def isIn (A : FVec Ideal S2000000x10 .f32) : IVec S2000000x10x10 1 :=
  andi (cmpf .olt (along (extractStridedSlice S10 ![0] edges slices_S11_S10_0)) (beside A)) (cmpf .ole (beside A) (along (extractStridedSlice S10 ![1] edges slices_S11_S10_1)))

/-- Whether a sample's label is a class, as a number. -/
def matched (L : IVec S2000000 32) : FVec Ideal S2000000x10 .f32 :=
  uitofp .f32 (cmpi .eq (broadcastInDim S2000000x10 ![0, 1] bcast_S2000000x1_S2000000x10_0_1 (broadcastInDim S2000000x1 ![0] bcast_S2000000_S2000000x1_0 L))
    (broadcastInDim S2000000x10 ![0, 1] bcast_S1x10_S2000000x10_0_1 (broadcastInDim S1x10 ![1] bcast_S10_S1x10_1 (iotaInDim S10 32 0))))

/-- The sum over the samples in each bin. -/
def sumIn (A : FVec Ideal S2000000x10 .f32) (v : FVec Ideal S2000000x10x10 .f32) : FVec Ideal S10x10 .f32 :=
  Host.reduceAdd (select (isIn A) v (broadcastInDim S2000000x10x10 ![] bcast_S_S2000000x10x10 (constant S_ .f32 0x00000000#32))) (constant S_ .f32 0x00000000#32)
    reducesTo_S2000000x10x10_S10x10_d0 h_S_

/-- The result of the three sums. -/
def finish (n f a : FVec Ideal S10x10 .f32) : FVec Ideal S_ .f32 :=
  have some := cmpf .ogt n (broadcastInDim S10x10 ![] bcast_S_S10x10 (constant S_ .f32 0x00000000#32))
  have safe := select some n (broadcastInDim S10x10 ![] bcast_S_S10x10 (id (constant S_ .f32 0x3F800000#32)))
  have d := subf (Host.divf f safe) (Host.divf a safe)
  have share := Host.divf n (broadcastInDim S10x10 ![0, 1] bcast_S10x1_S10x10_0_1 (broadcastInDim S10x1 ![0] bcast_S10_S10x1_0 (Host.reduceAdd n (constant S_ .f32 0x00000000#32) reducesTo_S10x10_S10_d1 h_S_)))
  Host.powf (Host.divf (Host.reduceAdd (Host.reduceAdd (select some (mulf share (mulf d d)) (broadcastInDim S10x10 ![] bcast_S_S10x10 (id (constant S_ .f32 0x00000000#32))))
    (constant S_ .f32 0x00000000#32) reducesTo_S10x10_S10_d1 h_S_) (constant S_ .f32 0x00000000#32) reducesTo_S10_S_d0 h_S_) (constant S_ .f32 0x41200000#32)) (constant S_ .f32 0x3F000000#32)

set_option maxHeartbeats 4000000 in
/-- The reference's composed term, by stages. -/
theorem res_eq (m : (ℓ : Loc nD τ sig) → Buf (Elt Ideal) ℓ) (c : Dev nD) :
    res_main_v44 m c = finish (sumIn (m ((c.tc : Thread nD τ).loc main_arg0)) (broadcastInDim S2000000x10x10 ![] bcast_S_S2000000x10x10 (constant S_ .f32 0x3F800000#32)))
      (sumIn (m ((c.tc : Thread nD τ).loc main_arg0)) (beside (m ((c.tc : Thread nD τ).loc main_arg0))))
      (sumIn (m ((c.tc : Thread nD τ).loc main_arg0)) (beside (matched (m ((c.tc : Thread nD τ).loc main_arg1))))) := rfl

end Cert.ReferenceIdeal.Stage

end
-- ==== Proof.Part.RefBins.lean ====
/- The reference's edges, its bin sums and its result over the extended reals, read at an index. -/
module

public import proofs.«01_k».proof.Proof.Part.RefValue

@[expose] public section

set_option maxRecDepth 8192

noncomputable section

namespace Cert.ReferenceIdeal.Stage

open Idealize.ShloMosaic Idealize.ShloMosaic.TcCoe
open Idealize.ShloMosaic.ValueIdx hiding ix0 ix1 ix2 ix3 eq_ix1 eq_ix2 eq_ix3
open Cert.ReferenceIdeal Cert.ReferenceIdeal.Gen
open Cert.KernelIdeal.Part (edge edge_nonneg edge_le within choose_within coe_sum div_real binSum gap gap_nonneg meanGap meanGap_nonneg val pick)
open scoped BigOperators

/-- The printed constants. -/
theorem ten_eq : (Ideal.ofBits .f32 0x41200000#32 : EReal) = ((10 : ℝ) : EReal) := by
  simp [Ideal.ofBits, Ideal.ieee]
  rw [← EReal.coe_mul]
  norm_num
theorem half_eq : (Ideal.ofBits .f32 0x3F000000#32 : EReal) = ((1 / 2 : ℝ) : EReal) := by
  simp [Ideal.ofBits, Ideal.ieee]
  rw [← EReal.coe_mul]
  norm_num
theorem one_eq : (Ideal.ofBits .f32 0x3F800000#32 : EReal) = ((1 : ℝ) : EReal) := Ideal.ofBits_one_f32
theorem zero_eq : (Ideal.ofBits .f32 0x00000000#32 : EReal) = ((0 : ℝ) : EReal) := Ideal.ofBits_zero_f32

theorem tenth_word : ∀ k : Fin 10, (BitVec.ofNat 32 k.val).toInt = (k.val : ℤ) := by decide

/-- Edge `k` is `k / 10`. -/
theorem edges_apply (k : Fin 11) : (edges (ix1 k) : EReal) = ((edge k.val : ℝ) : EReal) := by
  unfold edges
  by_cases hk : k.val < 10
  · refine (concatenate_pair_apply_left (s₁ := S10) (s₂ := S1) (t := S11) 0 _ _ _ (ix1 k) rfl (ix1 ⟨k.val, hk⟩) fun b => ?_).trans ?_
    · match b with
      | ⟨0, _⟩ => rfl
    · have hq : (Host.divf (sitofp .f32 (iotaInDim S10 32 0)) (broadcastInDim S10 ![] bcast_S_S10 (constant S_ .f32 0x41200000#32)) : FVec Ideal S10 .f32) (ix1 ⟨k.val, hk⟩) = ((edge k.val : ℝ) : EReal) := by
        have h : (Host.divf (sitofp .f32 (iotaInDim S10 32 0)) (broadcastInDim S10 ![] bcast_S_S10 (constant S_ .f32 0x41200000#32)) : FVec Ideal S10 .f32) (ix1 ⟨k.val, hk⟩)
            = Ideal.div ((((BitVec.ofNat 32 k.val).toInt : ℝ)) : EReal) (Ideal.ofBits .f32 0x41200000#32) := rfl
        rw [h, ten_eq, tenth_word ⟨k.val, hk⟩, div_real _ (by norm_num)]
        rfl
      have h : (addf (mulf (broadcastInDim S10 ![0] bcast_S1_S10_0 (shapeCast _ (id (constant S_ .f32 0x00000000#32)) shapeCasts_S_S1))
          (subf (broadcastInDim S10 ![] bcast_S_S10 (constant S_ .f32 0x3F800000#32)) (Host.divf (sitofp .f32 (iotaInDim S10 32 0)) (broadcastInDim S10 ![] bcast_S_S10 (constant S_ .f32 0x41200000#32)))))
          (mulf (broadcastInDim S10 ![0] bcast_S1_S10_0 (shapeCast _ (id (constant S_ .f32 0x3F800000#32)) shapeCasts_S_S1)) (Host.divf (sitofp .f32 (iotaInDim S10 32 0)) (broadcastInDim S10 ![] bcast_S_S10 (constant S_ .f32 0x41200000#32)))) : FVec Ideal S10 .f32) (ix1 ⟨k.val, hk⟩)
          = (Ideal.ofBits .f32 0x00000000#32 : EReal) * ((Ideal.ofBits .f32 0x3F800000#32 : EReal) - (Host.divf (sitofp .f32 (iotaInDim S10 32 0)) (broadcastInDim S10 ![] bcast_S_S10 (constant S_ .f32 0x41200000#32)) : FVec Ideal S10 .f32) (ix1 ⟨k.val, hk⟩))
            + (Ideal.ofBits .f32 0x3F800000#32 : EReal) * (Host.divf (sitofp .f32 (iotaInDim S10 32 0)) (broadcastInDim S10 ![] bcast_S_S10 (constant S_ .f32 0x41200000#32)) : FVec Ideal S10 .f32) (ix1 ⟨k.val, hk⟩) := rfl
      refine h.trans ?_
      rw [hq, zero_eq, one_eq, ← EReal.coe_sub, ← EReal.coe_mul, ← EReal.coe_mul, ← EReal.coe_add, zero_mul, zero_add, one_mul]
  · have hk' : k.val = 10 := by omega
    refine (concatenate_pair_apply_right (s₁ := S10) (s₂ := S1) (t := S11) 0 _ _ _ (ix1 k) rfl rfl (ix1 0) (fun b hb => ?_) ?_).trans ?_
    · match b with
      | ⟨0, _⟩ => exact absurd rfl hb
    · exact (show 0 + 10 = k.val by omega)
    · have h : (edge k.val : ℝ) = 1 := by rw [hk']; unfold edge; norm_num
      rw [h]
      exact one_eq

/-- A value beside every bin. -/
theorem beside_apply (A : FVec Ideal S2000000x10 .f32) (n : Fin 2000000) (c b : Fin 10) : beside A (ix3 n c b) = A (ix2 n c) := by
  unfold beside
  refine (broadcastInDim_apply _ _ _ _ (ix3 n c 0) fun a => ?_).trans (broadcastInDim_apply _ _ _ _ (ix2 n c) fun a => ?_)
  · match a with
    | ⟨0, _⟩ => rfl
    | ⟨1, _⟩ => rfl
    | ⟨2, _⟩ => rfl
  · match a with
    | ⟨0, _⟩ => rfl
    | ⟨1, _⟩ => rfl

/-- An edge beside every sample and class. -/
theorem along_apply (e : FVec Ideal S10 .f32) (n : Fin 2000000) (c b : Fin 10) : along e (ix3 n c b) = e (ix1 b) := by
  unfold along
  refine (broadcastInDim_apply _ _ _ _ (ix3 0 0 b) fun a => ?_).trans (broadcastInDim_apply _ _ _ _ (ix1 b) fun a => ?_)
  · match a with
    | ⟨0, _⟩ => rfl
    | ⟨1, _⟩ => rfl
    | ⟨2, _⟩ => rfl
  · match a with
    | ⟨0, _⟩ => rfl

/-- Whether a sample's label is a class. -/
theorem matched_apply (L : IVec S2000000 32) (n : Fin 2000000) (c : Fin 10) : (matched L (ix2 n c) : EReal) = if L (ix1 n) = BitVec.ofNat 32 c.val then 1 else 0 := by
  have h1 : (broadcastInDim S2000000x10 ![0, 1] bcast_S2000000x1_S2000000x10_0_1 (broadcastInDim S2000000x1 ![0] bcast_S2000000_S2000000x1_0 L)) (ix2 n c) = L (ix1 n) := by
    refine (broadcastInDim_apply _ _ _ _ (ix2 n 0) fun a => ?_).trans (broadcastInDim_apply _ _ _ _ (ix1 n) fun a => ?_)
    · match a with
      | ⟨0, _⟩ => rfl
      | ⟨1, _⟩ => rfl
    · match a with
      | ⟨0, _⟩ => rfl
  have h2 : (broadcastInDim S2000000x10 ![0, 1] bcast_S1x10_S2000000x10_0_1 (broadcastInDim S1x10 ![1] bcast_S10_S1x10_1 (iotaInDim S10 32 0))) (ix2 n c) = BitVec.ofNat 32 c.val := by
    refine (broadcastInDim_apply _ _ _ _ (ix2 0 c) fun a => ?_).trans ((broadcastInDim_apply _ _ _ _ (ix1 c) fun a => ?_).trans rfl)
    · match a with
      | ⟨0, _⟩ => rfl
      | ⟨1, _⟩ => rfl
    · match a with
      | ⟨0, _⟩ => rfl
  have h : (matched L (ix2 n c) : EReal) = FloatOps.uitofp (F := Ideal) .f32 (IntOp.cmpi .eq
      ((broadcastInDim S2000000x10 ![0, 1] bcast_S2000000x1_S2000000x10_0_1 (broadcastInDim S2000000x1 ![0] bcast_S2000000_S2000000x1_0 L)) (ix2 n c))
      ((broadcastInDim S2000000x10 ![0, 1] bcast_S1x10_S2000000x10_0_1 (broadcastInDim S1x10 ![1] bcast_S10_S1x10_1 (iotaInDim S10 32 0))) (ix2 n c))) := rfl
  rw [h, h1, h2]
  by_cases hc : L (ix1 n) = BitVec.ofNat 32 c.val <;> simp [FloatOps.uitofp, IntOp.cmpi, hc]

/-- A choice in a bin is a choice on its two edges. -/
theorem isIn_apply (A : FVec Ideal S2000000x10 .f32) (n : Fin 2000000) (c b : Fin 10) (x y : EReal) :
    Scalar.select (isIn A (ix3 n c b)) x y = if (edge b.val : EReal) < A (ix2 n c) ∧ A (ix2 n c) ≤ (edge (b.val + 1) : EReal) then x else y := by
  have h0 : (extractStridedSlice S10 ![0] edges slices_S11_S10_0) (ix1 b) = edges (ix1 ⟨b.val, by omega⟩) :=
    extractStridedSlice_apply _ _ _ _ _ fun a => by match a with | ⟨0, _⟩ => exact (Nat.zero_add _).symm
  have h1 : (extractStridedSlice S10 ![1] edges slices_S11_S10_1) (ix1 b) = edges (ix1 ⟨b.val + 1, by omega⟩) :=
    extractStridedSlice_apply _ _ _ _ _ fun a => by match a with | ⟨0, _⟩ => exact Nat.add_comm _ _
  have h : isIn A (ix3 n c b) = IntOp.andi (Ideal.cmp .olt (along (extractStridedSlice S10 ![0] edges slices_S11_S10_0) (ix3 n c b)) (beside A (ix3 n c b)))
      (Ideal.cmp .ole (beside A (ix3 n c b)) (along (extractStridedSlice S10 ![1] edges slices_S11_S10_1) (ix3 n c b))) := rfl
  rw [h, beside_apply, along_apply, along_apply, h0, h1, edges_apply, edges_apply]
  by_cases h2 : (edge b.val : EReal) < A (ix2 n c) <;> by_cases h3 : A (ix2 n c) ≤ (edge (b.val + 1) : EReal) <;>
    simp [Ideal.cmp, IntOp.andi, Scalar.select, h2, h3]

/-- The sum over a bin. -/
theorem sumIn_apply (A : FVec Ideal S2000000x10 .f32) (v : FVec Ideal S2000000x10x10 .f32) (c b : Fin 10) :
    (sumIn A v (ix2 c b) : EReal)
      = ∑ n : Fin 2000000, if (edge b.val : EReal) < A (ix2 n c) ∧ A (ix2 n c) ≤ (edge (b.val + 1) : EReal) then (v (ix3 n c b) : EReal) else 0 := by
  unfold sumIn
  have hr : S2000000x10x10.Reduces [0] S10x10 := by decide
  refine (Ideal.hostReduceAdd_single reducesTo_S2000000x10x10_S10x10_d0 hr _ _ (ix2 c b)).trans ?_
  refine (congrArg (· + _) zero_eq).trans ?_
  rw [EReal.coe_zero, zero_add]
  refine Finset.sum_congr rfl fun n _ => ?_
  have hl : hr.lift (ix2 c b) n = ix3 n c b := funext fun a => match a with | ⟨0, _⟩ => rfl | ⟨1, _⟩ => rfl | ⟨2, _⟩ => rfl
  rw [hl]
  refine (isIn_apply A n c b _ _).trans ?_
  by_cases h : (edge b.val : EReal) < A (ix2 n c) ∧ A (ix2 n c) ≤ (edge (b.val + 1) : EReal)
  · exact (if_pos h).trans (if_pos h).symm
  · exact (if_neg h).trans (zero_eq.trans (if_neg h).symm)

end Cert.ReferenceIdeal.Stage

end
-- ==== Proof.Part.Host.lean ====
/- Over the extended reals: what the two streaming calls find in their operands — the reference's edges and the two parts of the arguments. -/
module

public import proofs.«01_k».proof.Proof.Part.Value0
public import proofs.«01_k».proof.Proof.Part.Value1
public import proofs.«01_k».proof.Proof.Part.Run
public import proofs.«01_k».proof.Proof.Part.RefBins

@[expose] public section

set_option maxRecDepth 8192

noncomputable section

namespace Cert.KernelIdeal.Part

open Idealize.ShloMosaic Idealize.ShloMosaic.TcCoe Idealize.ShloMosaic.Tactic
open Idealize.ShloMosaic.ValueIdx hiding ix0 ix1 ix2 ix3 eq_ix1 eq_ix2 eq_ix3
open Cert.KernelIdeal Cert.KernelIdeal.Gen
open scoped BigOperators

/-- Rows of 128 samples of ten classes. -/
theorem rows_apply {α : Type} {n w : ℕ} (x : (⟨2, ![n, 10]⟩ : Shape).Idx → α) (h : (⟨2, ![n, 10]⟩ : Shape).ShapeCasts (⟨2, ![w, 1280]⟩ : Shape)) (r : Fin w) (l : Fin 1280)
    (hn : 128 * r.val + l.val / 10 < n) : shapeCast (⟨2, ![w, 1280]⟩ : Shape) x h (ix2 r l) = x (ix2 ⟨128 * r.val + l.val / 10, hn⟩ ⟨l.val % 10, Nat.mod_lt _ (by norm_num)⟩) := by
  refine shapeCast_apply _ _ _ _ ?_
  rw [Shape.rowMajor_val_two, Shape.rowMajor_val_two]
  show (128 * r.val + l.val / 10) * 10 + l.val % 10 = r.val * 1280 + l.val
  omega

/-- Rows of 128 labels. -/
theorem labels_apply {α : Type} {n w : ℕ} (x : (⟨1, ![n]⟩ : Shape).Idx → α) (h : (⟨1, ![n]⟩ : Shape).ShapeCasts (⟨2, ![w, 128]⟩ : Shape)) (r : Fin w) (s : Fin 128)
    (hn : 128 * r.val + s.val < n) : shapeCast (⟨2, ![w, 128]⟩ : Shape) x h (ix2 r s) = x (ix1 ⟨128 * r.val + s.val, hn⟩) := by
  refine shapeCast_apply _ _ _ _ ?_
  rw [Shape.rowMajor_val_one, Shape.rowMajor_val_two]
  show 128 * r.val + s.val = r.val * 128 + s.val
  omega

set_option maxHeartbeats 4000000 in
/-- The edges the program computes are the reference's. -/
theorem edges_read (m : (ℓ : Loc nD τ sig) → Buf (Elt Ideal) ℓ) (c : Dev nD) :
    (V3 m c (Proc.devRef .tc main_v1) : Vec Ideal S1x11 .f32) = shapeCast S1x11 Cert.ReferenceIdeal.Stage.edges shapeCasts_S11_S1x11 := by
  have h : (V2 m c (Proc.devRef .tc main_v0) : Vec Ideal S11 .f32) = Cert.ReferenceIdeal.Stage.edges := by
    show StableHlo.after hostOps0_1 (StableHlo.after hostOps0 (V0 m c)) (Proc.devRef .tc main_v0) = _
    after_results_simp
    rfl
  show StableHlo.after hostOps0_2 (V2 m c) (Proc.devRef .tc main_v1) = _
  generalize V2 m c = V at h ⊢
  after_results_simp
  rw [← h]
  rfl

theorem edges0_eq (m : (ℓ : Loc nD τ sig) → Buf (Elt Ideal) ℓ) (c : Dev nD) (k : Fin 11) : edges0 (V3 m c) k = (edge k.val : EReal) := by
  unfold edges0
  rw [edges_read]
  refine (shapeCast_apply _ _ (ix2 0 k) (ix1 k) ?_).trans (Cert.ReferenceIdeal.Stage.edges_apply k)
  rw [Shape.rowMajor_val_one, Shape.rowMajor_val_two]
  show k.val = 0 * 11 + k.val
  omega

theorem elems0_read (m : (ℓ : Loc nD τ sig) → Buf (Elt Ideal) ℓ) (c : Dev nD) (r : Fin 7812) (l : Fin 1280) :
    elems0 (V3 m c) (ix2 r l) = (m ((c.tc : Thread nD τ).loc main_arg0) : Vec Ideal S2000000x10 .f32) (ix2 ⟨0 + 128 * r.val + l.val / 10, by omega⟩ ⟨l.val % 10, by omega⟩) := by
  have h : (V2 m c (Proc.devRef .tc main_arg0) : Vec Ideal S2000000x10 .f32) = m ((c.tc : Thread nD τ).loc main_arg0) := (V2_of m c main_arg0 (by decide)).trans (V1_of m c main_arg0 (by decide))
  have h3 : (V3 m c (Proc.devRef .tc main_v3) : Vec Ideal S7812x1280 .f32)
      = shapeCast S7812x1280 (extractStridedSlice S999936x10 ![0, 0] (V2 m c (Proc.devRef .tc main_arg0) : Vec Ideal S2000000x10 .f32) slices_S2000000x10_S999936x10_0_0) shapeCasts_S999936x10_S7812x1280 := by
    show StableHlo.after hostOps0_2 (V2 m c) (Proc.devRef .tc main_v3) = _
    generalize V2 m c = V
    after_results_simp
    rfl
  unfold elems0
  rw [h3, h]
  refine (rows_apply (n := 999936) (w := 7812) _ _ r l (by omega)).trans ?_
  exact extractStridedSlice_apply _ _ _ _ _ fun a => by
    match a with
    | ⟨0, _⟩ => exact Nat.add_assoc _ _ _
    | ⟨1, _⟩ => exact (Nat.zero_add _).symm

theorem labels0_read (m : (ℓ : Loc nD τ sig) → Buf (Elt Ideal) ℓ) (c : Dev nD) (r : Fin 7812) (l : Fin 1280) :
    labels0 (V3 m c) (ix2 r (laneSample l)) = (m ((c.tc : Thread nD τ).loc main_arg1) : Vec Ideal S2000000 .i32) (ix1 ⟨0 + 128 * r.val + l.val / 10, by omega⟩) := by
  have h : (V2 m c (Proc.devRef .tc main_arg1) : Vec Ideal S2000000 .i32) = m ((c.tc : Thread nD τ).loc main_arg1) := (V2_of m c main_arg1 (by decide)).trans (V1_of m c main_arg1 (by decide))
  have h3 : (V3 m c (Proc.devRef .tc main_v5) : Vec Ideal S7812x128 .i32)
      = shapeCast S7812x128 (extractStridedSlice S999936 ![0] (V2 m c (Proc.devRef .tc main_arg1) : Vec Ideal S2000000 .i32) slices_S2000000_S999936_0) shapeCasts_S999936_S7812x128 := by
    show StableHlo.after hostOps0_2 (V2 m c) (Proc.devRef .tc main_v5) = _
    generalize V2 m c = V
    after_results_simp
    rfl
  unfold labels0
  rw [h3, h]
  refine (labels_apply (n := 999936) (w := 7812) _ _ r (laneSample l) (show 128 * r.val + l.val / 10 < 999936 by omega)).trans ?_
  exact extractStridedSlice_apply _ _ _ _ _ fun a => by
    match a with
    | ⟨0, _⟩ => exact Nat.add_assoc _ _ _

/-- The first call leaves the edges and the arguments. -/
theorem kept (m : (ℓ : Loc nD τ sig) → Buf (Elt Ideal) ℓ) (c : Dev nD) (A0 : Left (τ := τ) (pcfgs (F := Ideal)) adm 0 c) :
    next0 (V3 m c) c A0 (Proc.devRef .tc main_v1) = V3 m c (Proc.devRef .tc main_v1)
      ∧ next0 (V3 m c) c A0 (Proc.devRef .tc main_arg0) = m ((c.tc : Thread nD τ).loc main_arg0)
      ∧ next0 (V3 m c) c A0 (Proc.devRef .tc main_arg1) = m ((c.tc : Thread nD τ).loc main_arg1) :=
  ⟨next0_of _ c A0 main_v1 (by decide) (by decide) (by decide),
    (next0_of _ c A0 main_arg0 (by decide) (by decide) (by decide)).trans ((V3_of m c main_arg0 (by decide)).trans ((V2_of m c main_arg0 (by decide)).trans (V1_of m c main_arg0 (by decide)))),
    (next0_of _ c A0 main_arg1 (by decide) (by decide) (by decide)).trans ((V3_of m c main_arg1 (by decide)).trans ((V2_of m c main_arg1 (by decide)).trans (V1_of m c main_arg1 (by decide))))⟩

theorem edges1_eq (m : (ℓ : Loc nD τ sig) → Buf (Elt Ideal) ℓ) (c : Dev nD) (A0 : Left (τ := τ) (pcfgs (F := Ideal)) adm 0 c) (k : Fin 11) :
    edges1 (W5 m c A0) k = (edge k.val : EReal) := by
  have h : W5 m c A0 (Proc.devRef .tc main_v1) = V3 m c (Proc.devRef .tc main_v1) := (StableHlo.after_of_writes_sub hostOps1 _ hostOps1_writes (by decide)).trans (kept m c A0).1
  unfold edges1
  rw [h]
  exact edges0_eq m c k

theorem elems1_read (m : (ℓ : Loc nD τ sig) → Buf (Elt Ideal) ℓ) (c : Dev nD) (A0 : Left (τ := τ) (pcfgs (F := Ideal)) adm 0 c) (r : Fin 7813) (l : Fin 1280) :
    elems1 (W5 m c A0) (ix2 r l) = (m ((c.tc : Thread nD τ).loc main_arg0) : Vec Ideal S2000000x10 .f32) (ix2 ⟨999936 + 128 * r.val + l.val / 10, by omega⟩ ⟨l.val % 10, by omega⟩) := by
  have h := (kept m c A0).2.1
  have h3 : (W5 m c A0 (Proc.devRef .tc main_v8) : Vec Ideal S7813x1280 .f32)
      = shapeCast S7813x1280 (extractStridedSlice S1000064x10 ![999936, 0] (next0 (V3 m c) c A0 (Proc.devRef .tc main_arg0) : Vec Ideal S2000000x10 .f32) slices_S2000000x10_S1000064x10_999936_0) shapeCasts_S1000064x10_S7813x1280 := by
    show StableHlo.after hostOps1 (next0 (V3 m c) c A0) (Proc.devRef .tc main_v8) = _
    generalize next0 (V3 m c) c A0 = V
    after_results_simp
    rfl
  unfold elems1
  rw [h3, h]
  refine (rows_apply (n := 1000064) (w := 7813) _ _ r l (by omega)).trans ?_
  exact extractStridedSlice_apply _ _ _ _ _ fun a => by
    match a with
    | ⟨0, _⟩ => exact Nat.add_assoc _ _ _
    | ⟨1, _⟩ => exact (Nat.zero_add _).symm

theorem labels1_read (m : (ℓ : Loc nD τ sig) → Buf (Elt Ideal) ℓ) (c : Dev nD) (A0 : Left (τ := τ) (pcfgs (F := Ideal)) adm 0 c) (r : Fin 7813) (l : Fin 1280) :
    labels1 (W5 m c A0) (ix2 r (laneSample l)) = (m ((c.tc : Thread nD τ).loc main_arg1) : Vec Ideal S2000000 .i32) (ix1 ⟨999936 + 128 * r.val + l.val / 10, by omega⟩) := by
  have h := (kept m c A0).2.2
  have h3 : (W5 m c A0 (Proc.devRef .tc main_v10) : Vec Ideal S7813x128 .i32)
      = shapeCast S7813x128 (extractStridedSlice S1000064 ![999936] (next0 (V3 m c) c A0 (Proc.devRef .tc main_arg1) : Vec Ideal S2000000 .i32) slices_S2000000_S1000064_999936) shapeCasts_S1000064_S7813x128 := by
    show StableHlo.after hostOps1 (next0 (V3 m c) c A0) (Proc.devRef .tc main_v10) = _
    generalize next0 (V3 m c) c A0 = V
    after_results_simp
    rfl
  unfold labels1
  rw [h3, h]
  refine (labels_apply (n := 1000064) (w := 7813) _ _ r (laneSample l) (show 128 * r.val + l.val / 10 < 1000064 by omega)).trans ?_
  exact extractStridedSlice_apply _ _ _ _ _ fun a => by
    match a with
    | ⟨0, _⟩ => exact Nat.add_assoc _ _ _

end Cert.KernelIdeal.Part

end
-- ==== Proof.Part.Finish.lean ====
/- The last kernel over the extended reals: from edge sums that are real, the root of the mean gap over bins and classes. -/
module

public import proofs.«01_k».proof.Proof.Part.Bins
public import proofs.«01_k».proof.Proof.Part.Data2

@[expose] public section

set_option maxRecDepth 8192

noncomputable section

namespace Cert.KernelIdeal.Part

open Idealize.ShloMosaic Idealize.ShloMosaic.TcCoe
open Idealize.ShloMosaic.ValueIdx hiding ix0 ix1 ix2 ix3 eq_ix1 eq_ix2 eq_ix3
open Cert.KernelIdeal Cert.KernelIdeal.Gen
open scoped BigOperators

/-- The printed ten. -/
theorem ten_eq : (Ideal.ofBits .f32 0x41200000#32 : EReal) = ((10 : ℝ) : EReal) := by
  simp [Ideal.ofBits, Ideal.ieee]
  rw [← EReal.coe_mul]
  norm_num

/-- A choice by the sign of a real. -/
theorem select_pos (n : ℝ) (x y : EReal) :
    Scalar.select (FloatOps.cmpf (F := Ideal) (φ := .f32) .ogt (n : EReal) (Ideal.ofBits .f32 0x00000000#32 : EReal)) x y = if 0 < n then x else y := by
  have h0 : (Ideal.ofBits .f32 0x00000000#32 : EReal) = ((0 : ℝ) : EReal) := Ideal.ofBits_zero_f32
  rw [h0]
  refine (select_ogt _ _ _ _).trans (if_congr ?_ rfl rfl)
  exact EReal.coe_lt_coe_iff

/-- The sum of two edge sums, of bin `b`: its lower edge's less its upper edge's. -/
theorem bin_apply (X Y : Vec Ideal S11x1280 .f32) (T : Fin 11 → Fin 1280 → ℝ) (h : ∀ k l, (X (ix2 k l) + Y (ix2 k l) : EReal) = (T k l : EReal)) (b : Fin 10) (l : Fin 1280) :
    (k2_pay2 (F := Ideal) X Y (ix2 b l) : EReal) = ((T ⟨b.val, by omega⟩ l - T ⟨b.val + 1, by omega⟩ l : ℝ) : EReal) := by
  unfold k2_pay2
  rw [shapeCast_self, shapeCast_self]
  have h0 : (extractStridedSlice S10x1280 ![0, 0] (addf X Y : FVec Ideal S11x1280 .f32) slices_S11x1280_o0_0_S10x1280) (ix2 b l) = (T ⟨b.val, by omega⟩ l : EReal) :=
    (extractStridedSlice_apply _ _ _ _ (ix2 ⟨b.val, by omega⟩ l) fun a => by match a with | ⟨0, _⟩ => exact (Nat.zero_add _).symm | ⟨1, _⟩ => exact (Nat.zero_add _).symm).trans (h _ _)
  have h1 : (extractStridedSlice S10x1280 ![1, 0] (addf X Y : FVec Ideal S11x1280 .f32) slices_S11x1280_o1_0_S10x1280) (ix2 b l) = (T ⟨b.val + 1, by omega⟩ l : EReal) :=
    (extractStridedSlice_apply _ _ _ _ (ix2 ⟨b.val + 1, by omega⟩ l) fun a => by match a with | ⟨0, _⟩ => exact Nat.add_comm _ _ | ⟨1, _⟩ => exact (Nat.zero_add _).symm).trans (h _ _)
  exact (congrArg₂ (fun x y : EReal => x - y) h0 h1).trans (EReal.coe_sub _ _).symm

/-- Which lanes belong to a class, as the last kernel's second factor. -/
def lanes : FVec Ideal S1280x16 .f32 := sitofp .f32 (extui 32 (cmpi .eq k2_pay5 (iota .tc S1280x16 32 [1] iota_S1280x16_d1_w32)) natLt_1_32)

theorem class_word : ∀ (d : Fin 10) (c : Fin 16), IntOp.cmpi .eq (BitVec.ofNat 32 d.val) (BitVec.ofNat 32 c.val) = BitVec.ofBool (decide (d.val = c.val)) := by decide +kernel

theorem lanes_apply (l : Fin 1280) (c : Fin 16) : (lanes (ix2 l c) : EReal) = if l.val % 10 = c.val then 1 else 0 := by
  have e1 : lanes (ix2 l c) = FloatOps.sitofp (F := Ideal) .f32 ((IntOp.cmpi .eq (remWord (iota .tc S1280x16 32 [0] iota_S1280x16_d0_w32 (ix2 l c)))
      (iota .tc S1280x16 32 [1] iota_S1280x16_d1_w32 (ix2 l c))).setWidth 32) := rfl
  rw [e1, iota_single_apply, iota_single_apply, show ((ix2 l c : S1280x16.Idx) 0).val = l.val from rfl, show ((ix2 l c : S1280x16.Idx) 1).val = c.val from rfl, remWord_eq]
  have hw := congrArg (fun v : BitVec 1 => (FloatOps.sitofp (F := Ideal) .f32 (v.setWidth 32) : EReal)) (class_word ⟨l.val % 10, Nat.mod_lt _ (by norm_num)⟩ c)
  exact hw.trans (sitofp_bit _)

/-- The class sums of a bin. -/
def classSum (D : Fin 10 → Fin 1280 → ℝ) (b : Fin 10) (c : ℕ) : ℝ := ∑ l : Fin 1280, if l.val % 10 = c then D b l else 0

theorem classSum_big (D : Fin 10 → Fin 1280 → ℝ) (b : Fin 10) {c : ℕ} (h : 10 ≤ c) : classSum D b c = 0 :=
  Finset.sum_eq_zero fun l _ => if_neg (by omega)

theorem product_apply (x : FVec Ideal S10x1280 .f32) (D : Fin 10 → Fin 1280 → ℝ) (h : ∀ b l, (x (ix2 b l) : EReal) = (D b l : EReal)) (b : Fin 10) (c : Fin 16) :
    (matmul dot_S10x1280_S1280x16_S10x16_1_0_0_1_n_n none x lanes (constant S10x16 .f32 0x00000000#32) (ix2 b c) : EReal) = (classSum D b c.val : EReal) := by
  have e1 : matmul dot_S10x1280_S1280x16_S10x16_1_0_0_1_n_n none x lanes (constant S10x16 .f32 0x00000000#32)
      = FloatOps.matmul (DotDims.plain 10 1280 16) none x lanes (constant S10x16 .f32 0x00000000#32) := rfl
  rw [e1]
  refine (Ideal.matmul_plain_apply _ _ _ _ _ _).trans ?_
  have h1 : (constant S10x16 .f32 0x00000000#32 : FVec Ideal S10x16 .f32) (ix2 b c) = (0 : EReal) := Ideal.ofBits_zero_f32
  unfold classSum
  rw [coe_sum]
  refine (congrArg₂ (· + ·) h1 (Finset.sum_congr rfl fun l _ => ?_)).trans (zero_add _)
  refine (congrArg₂ (fun p q : EReal => p * q) (h b l) (lanes_apply l c)).trans ?_
  show (D b l : EReal) * (if l.val % 10 = c.val then (1 : EReal) else 0) = _
  split <;> simp

/-- From the class sums on: gaps, weights, mean and root. -/
def ending (v45 v46 v47 : FVec Ideal S10x16 .f32) : FVec Ideal S1x1 .f32 :=
  have v49 := cmpf .ogt v45 (broadcast S10x16 (Scalar.ofBits .f32 0x00000000#32))
  have v51 := select v49 v45 (broadcast S10x16 (Scalar.ofBits .f32 0x3F800000#32))
  have v56 := select v49 (divf (mulf (subf v46 v47) (subf v46 v47)) v51) (broadcast S10x16 (Scalar.ofBits .f32 0x00000000#32))
  have v58 := shapeCast S1x16 (multiReduction .add [0] S16 v45 0x00000000#32 reduces_S10x16_S16 (.inl rfl) rfl) shapeCasts_S16_S1x16
  have v60 := shapeCast S1x16 (multiReduction .add [0] S16 v56 0x00000000#32 reduces_S10x16_S16 (.inl rfl) rfl) shapeCasts_S16_S1x16
  have v64 := select (cmpf .ogt v58 (broadcast S1x16 (Scalar.ofBits .f32 0x00000000#32))) v58 (broadcast S1x16 (Scalar.ofBits .f32 0x3F800000#32))
  sqrt (divf (shapeCast S1x1 (multiReduction .add [1] S1 (divf v60 v64) 0x00000000#32 reduces_S1x16_S1 (.inl rfl) rfl) shapeCasts_S1_S1x1)
    (broadcast S1x1 (Scalar.ofBits .f32 0x41200000#32)))

theorem closing_eq (X0 X1 X2 X3 X4 X5 : Vec Ideal S11x1280 .f32) : closing X0 X1 X2 X3 X4 X5
    = ending (matmul dot_S10x1280_S1280x16_S10x16_1_0_0_1_n_n none (k2_pay2 X0 X3) lanes (constant S10x16 .f32 0x00000000#32))
        (matmul dot_S10x1280_S1280x16_S10x16_1_0_0_1_n_n none (k2_pay2 X1 X4) lanes (constant S10x16 .f32 0x00000000#32))
        (matmul dot_S10x1280_S1280x16_S10x16_1_0_0_1_n_n none (k2_pay2 X2 X5) lanes (constant S10x16 .f32 0x00000000#32)) := rfl

/-- A sum over bins. -/
theorem sumBins_apply (v : FVec Ideal S10x16 .f32) (g : Fin 10 → Fin 16 → ℝ) (h : ∀ b c, (v (ix2 b c) : EReal) = (g b c : EReal)) (c : Fin 16) :
    ((shapeCast S1x16 (multiReduction .add [0] S16 v 0x00000000#32 reduces_S10x16_S16 (.inl rfl) rfl) shapeCasts_S16_S1x16) (ix2 0 c) : EReal)
      = ((∑ b, g b c : ℝ) : EReal) := by
  refine (shapeCast_apply _ _ (ix2 0 c) (ix1 c) ?_).trans ?_
  · rw [Shape.rowMajor_val_one, Shape.rowMajor_val_two]
    show c.val = 0 * 16 + c.val
    omega
  refine (Ideal.multiReduction_add_single (φ := .f32) _ _ reduces_S10x16_S16 (.inl rfl) rfl (ix1 c)).trans ?_
  rw [coe_sum]
  refine Finset.sum_congr rfl fun b _ => ?_
  have hl : reduces_S10x16_S16.lift (ix1 c) b = ix2 b c := funext fun a => match a with | ⟨0, _⟩ => rfl | ⟨1, _⟩ => rfl
  rw [hl]
  exact h b c

/-- The gap of a bin before the division by its class's samples. -/
def raw (n f a : ℝ) : ℝ := if 0 < n then (f - a) * (f - a) / n else 0

/-- A class's weighted gaps. -/
theorem sum_gap (n f a : Fin 10 → ℝ) (hn : ∀ b, 0 ≤ n b) :
    (∑ b, raw (n b) (f b) (a b)) / (if 0 < ∑ b, n b then ∑ b, n b else 1) = ∑ b, gap (n b) (f b) (a b) (∑ b', n b') := by
  by_cases h : 0 < ∑ b, n b
  · rw [if_pos h, Finset.sum_div]
    refine Finset.sum_congr rfl fun b _ => ?_
    unfold raw gap
    split
    · rfl
    · exact zero_div _
  · have hz : ∀ b, n b = 0 := fun b =>
      (Finset.sum_eq_zero_iff_of_nonneg fun b _ => hn b).mp (le_antisymm (not_lt.mp h) (Finset.sum_nonneg fun b _ => hn b)) b (Finset.mem_univ b)
    rw [if_neg h, div_one]
    refine Finset.sum_congr rfl fun b _ => ?_
    unfold raw gap
    rw [hz b, if_neg (lt_irrefl _), if_neg (lt_irrefl _)]

/-- The result from real class sums that are nil past the tenth class. -/
theorem ending_apply (v45 v46 v47 : FVec Ideal S10x16 .f32) (n f a : Fin 10 → ℕ → ℝ) (h0 : ∀ b (c : Fin 16), (v45 (ix2 b c) : EReal) = (n b c.val : EReal))
    (h1 : ∀ b (c : Fin 16), (v46 (ix2 b c) : EReal) = (f b c.val : EReal)) (h2 : ∀ b (c : Fin 16), (v47 (ix2 b c) : EReal) = (a b c.val : EReal))
    (hn : ∀ b (c : Fin 10), 0 ≤ n b c.val) (hz : ∀ b c, 10 ≤ c → n b c = 0) :
    (ending v45 v46 v47 (ix2 0 0) : EReal) = ((Real.sqrt (meanGap (fun c b => n b c.val) (fun c b => f b c.val) (fun c b => a b c.val)) : ℝ) : EReal) := by
  have hn' : ∀ b (c : Fin 16), 0 ≤ n b c.val := fun b c => by
    by_cases hc : c.val < 10
    · exact hn b ⟨c.val, hc⟩
    · exact (hz b c.val (not_lt.mp hc)).ge
  have hcell : ∀ b (c : Fin 16), ((select (cmpf .ogt v45 (broadcast S10x16 (Scalar.ofBits .f32 0x00000000#32)))
      (divf (mulf (subf v46 v47) (subf v46 v47)) (select (cmpf .ogt v45 (broadcast S10x16 (Scalar.ofBits .f32 0x00000000#32))) v45 (broadcast S10x16 (Scalar.ofBits .f32 0x3F800000#32))))
      (broadcast S10x16 (Scalar.ofBits .f32 0x00000000#32)) : FVec Ideal S10x16 .f32) (ix2 b c) : EReal) = (raw (n b c.val) (f b c.val) (a b c.val) : EReal) := by
    intro b c
    show Scalar.select (FloatOps.cmpf (F := Ideal) (φ := .f32) .ogt (v45 (ix2 b c)) (Ideal.ofBits .f32 0x00000000#32 : EReal))
      (Ideal.div (((v46 (ix2 b c) : EReal) - v47 (ix2 b c)) * ((v46 (ix2 b c) : EReal) - v47 (ix2 b c)))
        (Scalar.select (FloatOps.cmpf (F := Ideal) (φ := .f32) .ogt (v45 (ix2 b c)) (Ideal.ofBits .f32 0x00000000#32 : EReal)) (v45 (ix2 b c)) (Ideal.ofBits .f32 0x3F800000#32 : EReal)))
      (Ideal.ofBits .f32 0x00000000#32 : EReal) = _
    rw [h0, h1, h2, select_pos, select_pos]
    unfold raw
    by_cases h : 0 < n b c.val
    · rw [if_pos h, if_pos h, if_pos h, ← EReal.coe_sub, ← EReal.coe_mul, div_real _ h.ne']
    · rw [if_neg h, if_neg h]
      exact Ideal.ofBits_zero_f32
  have hclass : ∀ c : Fin 16, ((divf (shapeCast S1x16 (multiReduction .add [0] S16 (select (cmpf .ogt v45 (broadcast S10x16 (Scalar.ofBits .f32 0x00000000#32)))
      (divf (mulf (subf v46 v47) (subf v46 v47)) (select (cmpf .ogt v45 (broadcast S10x16 (Scalar.ofBits .f32 0x00000000#32))) v45 (broadcast S10x16 (Scalar.ofBits .f32 0x3F800000#32))))
      (broadcast S10x16 (Scalar.ofBits .f32 0x00000000#32))) 0x00000000#32 reduces_S10x16_S16 (.inl rfl) rfl) shapeCasts_S16_S1x16)
      (select (cmpf .ogt (shapeCast S1x16 (multiReduction .add [0] S16 v45 0x00000000#32 reduces_S10x16_S16 (.inl rfl) rfl) shapeCasts_S16_S1x16) (broadcast S1x16 (Scalar.ofBits .f32 0x00000000#32)))
        (shapeCast S1x16 (multiReduction .add [0] S16 v45 0x00000000#32 reduces_S10x16_S16 (.inl rfl) rfl) shapeCasts_S16_S1x16) (broadcast S1x16 (Scalar.ofBits .f32 0x3F800000#32))) : FVec Ideal S1x16 .f32)
      (ix2 0 c) : EReal) = ((∑ b, gap (n b c.val) (f b c.val) (a b c.val) (∑ b', n b' c.val) : ℝ) : EReal) := by
    intro c
    have hS := sumBins_apply v45 (fun b c => n b c.val) h0 c
    have hG := sumBins_apply _ (fun b c => raw (n b c.val) (f b c.val) (a b c.val)) hcell c
    refine (congrArg₂ Ideal.div hG (congrArg (fun s : EReal => Scalar.select (FloatOps.cmpf (F := Ideal) (φ := .f32) .ogt s (Ideal.ofBits .f32 0x00000000#32 : EReal)) s (Ideal.ofBits .f32 0x3F800000#32 : EReal)) hS)).trans ?_
    rw [← sum_gap _ _ _ fun b => hn' b c]
    have hs : (Scalar.select (FloatOps.cmpf (F := Ideal) (φ := .f32) .ogt ((∑ b, n b c.val : ℝ) : EReal) (Ideal.ofBits .f32 0x00000000#32 : EReal)) ((∑ b, n b c.val : ℝ) : EReal) (Ideal.ofBits .f32 0x3F800000#32 : EReal))
        = ((if 0 < ∑ b, n b c.val then ∑ b, n b c.val else 1 : ℝ) : EReal) := by
      rw [select_pos]
      split
      · rfl
      · exact Ideal.ofBits_one_f32
    refine (congrArg (Ideal.div _) hs).trans (div_real _ ?_)
    split
    · next h => exact h.ne'
    · exact one_ne_zero
  have hsum : (∑ c : Fin 16, ∑ b, gap (n b c.val) (f b c.val) (a b c.val) (∑ b', n b' c.val)) = ∑ c : Fin 10, ∑ b, gap (n b c.val) (f b c.val) (a b c.val) (∑ b', n b' c.val) := by
    refine (Fin.sum_univ_add (a := 10) (b := 6) _).trans ?_
    have hr : (∑ i : Fin 6, ∑ b, gap (n b (Fin.natAdd 10 i).val) (f b (Fin.natAdd 10 i).val) (a b (Fin.natAdd 10 i).val) (∑ b', n b' (Fin.natAdd 10 i).val)) = 0 :=
      Finset.sum_eq_zero fun i _ => Finset.sum_eq_zero fun b _ => by
        unfold gap
        rw [show n b (Fin.natAdd 10 i).val = 0 from hz b _ (Nat.le_add_right 10 i.val), if_neg (lt_irrefl _)]
    rw [hr, add_zero]
    rfl
  unfold ending
  refine (congrArg (fun s : EReal => Ideal.sqrt (Ideal.div s (Ideal.ofBits .f32 0x41200000#32 : EReal))) (a₂ := ((∑ c : Fin 16, ∑ b, gap (n b c.val) (f b c.val) (a b c.val) (∑ b', n b' c.val) : ℝ) : EReal)) ?_).trans ?_
  · refine (shapeCast_apply _ _ (ix2 0 0) (ix1 0) ?_).trans ?_
    · rw [Shape.rowMajor_val_one, Shape.rowMajor_val_two]
      rfl
    refine (Ideal.multiReduction_add_single (φ := .f32) _ _ reduces_S1x16_S1 (.inl rfl) rfl (ix1 0)).trans ?_
    rw [coe_sum]
    refine Finset.sum_congr rfl fun c _ => ?_
    have hl : reduces_S1x16_S1.lift (ix1 0) c = ix2 0 c := funext fun a => match a with | ⟨0, _⟩ => rfl | ⟨1, _⟩ => rfl
    rw [hl]
    exact hclass c
  · have hm := meanGap_nonneg (n := fun c b => n b c.val) (f := fun c b => f b c.val) (a := fun c b => a b c.val) fun c b => hn b c
    unfold meanGap at hm ⊢
    rw [ten_eq, div_real _ (by norm_num), Ideal.sqrt_coe, hsum, if_neg (not_lt.mpr hm)]

/-- The last kernel's result. -/
theorem closing_apply (X0 X1 X2 X3 X4 X5 : Vec Ideal S11x1280 .f32) (T0 T1 T2 : Fin 11 → Fin 1280 → ℝ) (N F A : Fin 10 → Fin 10 → ℝ)
    (h0 : ∀ k l, (X0 (ix2 k l) + X3 (ix2 k l) : EReal) = (T0 k l : EReal)) (h1 : ∀ k l, (X1 (ix2 k l) + X4 (ix2 k l) : EReal) = (T1 k l : EReal))
    (h2 : ∀ k l, (X2 (ix2 k l) + X5 (ix2 k l) : EReal) = (T2 k l : EReal))
    (e0 : ∀ c b : Fin 10, classSum (fun b l => T0 ⟨b.val, by omega⟩ l - T0 ⟨b.val + 1, by omega⟩ l) b c.val = N c b)
    (e1 : ∀ c b : Fin 10, classSum (fun b l => T1 ⟨b.val, by omega⟩ l - T1 ⟨b.val + 1, by omega⟩ l) b c.val = F c b)
    (e2 : ∀ c b : Fin 10, classSum (fun b l => T2 ⟨b.val, by omega⟩ l - T2 ⟨b.val + 1, by omega⟩ l) b c.val = A c b)
    (hN : ∀ c b, 0 ≤ N c b) : (closing X0 X1 X2 X3 X4 X5 (ix2 0 0) : EReal) = ((Real.sqrt (meanGap N F A) : ℝ) : EReal) := by
  rw [closing_eq]
  refine (ending_apply _ _ _ _ _ _ (product_apply _ _ (bin_apply X0 X3 T0 h0)) (product_apply _ _ (bin_apply X1 X4 T1 h1)) (product_apply _ _ (bin_apply X2 X5 T2 h2))
    (fun b c => (e0 c b).symm ▸ hN c b) (fun b c hc => classSum_big _ b hc)).trans ?_
  rw [show (fun (c b : Fin 10) => classSum (fun b l => T0 ⟨b.val, by omega⟩ l - T0 ⟨b.val + 1, by omega⟩ l) b c.val) = N from funext fun c => funext fun b => e0 c b,
    show (fun (c b : Fin 10) => classSum (fun b l => T1 ⟨b.val, by omega⟩ l - T1 ⟨b.val + 1, by omega⟩ l) b c.val) = F from funext fun c => funext fun b => e1 c b,
    show (fun (c b : Fin 10) => classSum (fun b l => T2 ⟨b.val, by omega⟩ l - T2 ⟨b.val + 1, by omega⟩ l) b c.val) = A from funext fun c => funext fun b => e2 c b]

end Cert.KernelIdeal.Part

end
-- ==== Proof.Part.Value2.lean ====
/- Over the extended reals: what the closing call leaves in its output array, from the six arrays it is entered with. -/
module

public import proofs.«01_k».proof.Proof.Part.Finish
public import proofs.«01_k».proof.Proof.Part.Totals

@[expose] public section

set_option maxRecDepth 8192

noncomputable section

namespace Cert.KernelIdeal.Part

open Idealize.ShloMosaic Idealize.ShloMosaic.TcCoe
open Idealize.SL Idealize.SL.RA
open Idealize.ShloMosaic.Pipeline (RDat)
open Cert.KernelIdeal Cert.KernelIdeal.Gen
open scoped BigOperators

variable {U : Type} [URA U]

theorem inBlock (k : Fin 11) (l : Fin 1280) (a : Fin 2) : ((ix2 k l : S11x1280.Idx) a).val < S11x1280.size a := ((ix2 k l : S11x1280.Idx) a).isLt

/-- The six operands' buffers hold their arrays. -/
theorem found2_0 (c : Dev nD) (W : Valuation τ sig (Elt Ideal)) (t : Fin grid2.N) (X : Vec Ideal S11x1280 .f32) (h : Found2 c W 0 t X) (k : Fin 11) (l : Fin 1280) :
    X (ix2 k l) = (W (Proc.devRef .tc main_v6_0) : Vec Ideal S11x1280 .f32) (ix2 k l) := by
  obtain ⟨d, rfl⟩ := h
  exact fill_read (Val := Elt Ideal) (cfg2.win 0) t d _ (ix2 k l) (ix2 k l) rfl (inBlock k l) (fun a => by match a with | ⟨0, _⟩ => exact (show k.val = 0 * 11 + k.val by omega) | ⟨1, _⟩ => exact (show l.val = 0 * 1280 + l.val by omega))
theorem found2_1 (c : Dev nD) (W : Valuation τ sig (Elt Ideal)) (t : Fin grid2.N) (X : Vec Ideal S11x1280 .f32) (h : Found2 c W 1 t X) (k : Fin 11) (l : Fin 1280) :
    X (ix2 k l) = (W (Proc.devRef .tc main_v6_1) : Vec Ideal S11x1280 .f32) (ix2 k l) := by
  obtain ⟨d, rfl⟩ := h
  exact fill_read (Val := Elt Ideal) (cfg2.win 1) t d _ (ix2 k l) (ix2 k l) rfl (inBlock k l) (fun a => by match a with | ⟨0, _⟩ => exact (show k.val = 0 * 11 + k.val by omega) | ⟨1, _⟩ => exact (show l.val = 0 * 1280 + l.val by omega))
theorem found2_2 (c : Dev nD) (W : Valuation τ sig (Elt Ideal)) (t : Fin grid2.N) (X : Vec Ideal S11x1280 .f32) (h : Found2 c W 2 t X) (k : Fin 11) (l : Fin 1280) :
    X (ix2 k l) = (W (Proc.devRef .tc main_v6_2) : Vec Ideal S11x1280 .f32) (ix2 k l) := by
  obtain ⟨d, rfl⟩ := h
  exact fill_read (Val := Elt Ideal) (cfg2.win 2) t d _ (ix2 k l) (ix2 k l) rfl (inBlock k l) (fun a => by match a with | ⟨0, _⟩ => exact (show k.val = 0 * 11 + k.val by omega) | ⟨1, _⟩ => exact (show l.val = 0 * 1280 + l.val by omega))
theorem found2_3 (c : Dev nD) (W : Valuation τ sig (Elt Ideal)) (t : Fin grid2.N) (X : Vec Ideal S11x1280 .f32) (h : Found2 c W 3 t X) (k : Fin 11) (l : Fin 1280) :
    X (ix2 k l) = (W (Proc.devRef .tc main_v11_0) : Vec Ideal S11x1280 .f32) (ix2 k l) := by
  obtain ⟨d, rfl⟩ := h
  exact fill_read (Val := Elt Ideal) (cfg2.win 3) t d _ (ix2 k l) (ix2 k l) rfl (inBlock k l) (fun a => by match a with | ⟨0, _⟩ => exact (show k.val = 0 * 11 + k.val by omega) | ⟨1, _⟩ => exact (show l.val = 0 * 1280 + l.val by omega))
theorem found2_4 (c : Dev nD) (W : Valuation τ sig (Elt Ideal)) (t : Fin grid2.N) (X : Vec Ideal S11x1280 .f32) (h : Found2 c W 4 t X) (k : Fin 11) (l : Fin 1280) :
    X (ix2 k l) = (W (Proc.devRef .tc main_v11_1) : Vec Ideal S11x1280 .f32) (ix2 k l) := by
  obtain ⟨d, rfl⟩ := h
  exact fill_read (Val := Elt Ideal) (cfg2.win 4) t d _ (ix2 k l) (ix2 k l) rfl (inBlock k l) (fun a => by match a with | ⟨0, _⟩ => exact (show k.val = 0 * 11 + k.val by omega) | ⟨1, _⟩ => exact (show l.val = 0 * 1280 + l.val by omega))
theorem found2_5 (c : Dev nD) (W : Valuation τ sig (Elt Ideal)) (t : Fin grid2.N) (X : Vec Ideal S11x1280 .f32) (h : Found2 c W 5 t X) (k : Fin 11) (l : Fin 1280) :
    X (ix2 k l) = (W (Proc.devRef .tc main_v11_2) : Vec Ideal S11x1280 .f32) (ix2 k l) := by
  obtain ⟨d, rfl⟩ := h
  exact fill_read (Val := Elt Ideal) (cfg2.win 5) t d _ (ix2 k l) (ix2 k l) rfl (inBlock k l) (fun a => by match a with | ⟨0, _⟩ => exact (show k.val = 0 * 11 + k.val by omega) | ⟨1, _⟩ => exact (show l.val = 0 * 1280 + l.val by omega))

/-- The result array: `closing` of contents that are the six arrays'. -/
theorem arr2 (c : Dev nD) (W : Dev nD → Valuation τ sig (Elt Ideal)) (G : Vec Ideal S1x1 .f32) (h : (rd2 (U := U) W c).ArrAt 6 cfg2.N G) :
    ∃ X0 X1 X2 X3 X4 X5 : Vec Ideal S11x1280 .f32, G (ix2 0 0) = closing X0 X1 X2 X3 X4 X5 (ix2 0 0)
      ∧ (∀ k l, X0 (ix2 k l) = (W c (Proc.devRef .tc main_v6_0) : Vec Ideal S11x1280 .f32) (ix2 k l))
      ∧ (∀ k l, X1 (ix2 k l) = (W c (Proc.devRef .tc main_v6_1) : Vec Ideal S11x1280 .f32) (ix2 k l))
      ∧ (∀ k l, X2 (ix2 k l) = (W c (Proc.devRef .tc main_v6_2) : Vec Ideal S11x1280 .f32) (ix2 k l))
      ∧ (∀ k l, X3 (ix2 k l) = (W c (Proc.devRef .tc main_v11_0) : Vec Ideal S11x1280 .f32) (ix2 k l))
      ∧ (∀ k l, X4 (ix2 k l) = (W c (Proc.devRef .tc main_v11_1) : Vec Ideal S11x1280 .f32) (ix2 k l))
      ∧ (∀ k l, X5 (ix2 k l) = (W c (Proc.devRef .tc main_v11_2) : Vec Ideal S11x1280 .f32) (ix2 k l)) := by
  obtain ⟨X, ⟨Y, _, hX⟩, hG⟩ := RDat.ArrAt.emb_eq_of_wholeAt h (t₀ := ⟨0, by decide⟩) (by decide +kernel)
  obtain ⟨X0, X1, X2, X3, X4, X5, f0, f1, f2, f3, f4, f5, rfl⟩ := hX
  exact ⟨X0, X1, X2, X3, X4, X5, hG (ix2 0 0), found2_0 c _ _ _ f0, found2_1 c _ _ _ f1, found2_2 c _ _ _ f2, found2_3 c _ _ _ f3, found2_4 c _ _ _ f4, found2_5 c _ _ _ f5⟩

end Cert.KernelIdeal.Part

end
-- ==== Proof.Part.Fold.lean ====
/-
  Two blocks of rows cover the samples: summing a function of the sample over the lanes of a class and the rows of both
  blocks is summing it over all samples.
-/
module

public import proofs.«01_k».proof.Proof.Part.Finish

@[expose] public section

noncomputable section

namespace Cert.KernelIdeal.Part

open Finset
open scoped BigOperators

/-- The lanes of a class are one for each sample of a row. -/
theorem sum_lanes (g : ℕ → ℝ) (c : Fin 10) : (∑ l : Fin 1280, if l.val % 10 = c.val then g (l.val / 10) else 0) = ∑ s ∈ range 128, g s := by
  rw [Fin.sum_univ_eq_sum_range (fun l => if l % 10 = c.val then g (l / 10) else 0) 1280, ← sum_chunks 10 128 fun l => if l % 10 = c.val then g (l / 10) else 0]
  refine sum_congr rfl fun q _ => ?_
  rw [sum_eq_single_of_mem c.val (mem_range.mpr c.isLt) fun s hs hne => if_neg (by have := mem_range.mp hs; omega)]
  have h1 : (10 * q + c.val) % 10 = c.val := by omega
  have h2 : (10 * q + c.val) / 10 = q := by omega
  rw [if_pos h1, h2]

/-- Rows and samples of a row are samples. -/
theorem sum_rows (H : ℕ → ℝ) (n o : ℕ) : ∑ s ∈ range 128, ∑ r ∈ range n, H (o + 128 * r + s) = ∑ x ∈ range (128 * n), H (o + x) := by
  rw [sum_comm, ← sum_chunks 128 n fun x => H (o + x)]
  exact sum_congr rfl fun r _ => sum_congr rfl fun s _ => by rw [Nat.add_assoc]

/-- Both blocks. -/
theorem sum_samples (H : ℕ → ℝ) (c : Fin 10) :
    (∑ l : Fin 1280, if l.val % 10 = c.val then (∑ r : Fin 7812, H (0 + 128 * r.val + l.val / 10) + ∑ r : Fin 7813, H (999936 + 128 * r.val + l.val / 10)) else 0)
      = ∑ n : Fin 2000000, H n.val := by
  rw [sum_lanes (fun s => ∑ r : Fin 7812, H (0 + 128 * r.val + s) + ∑ r : Fin 7813, H (999936 + 128 * r.val + s)) c, sum_add_distrib]
  rw [sum_congr rfl fun s _ => Fin.sum_univ_eq_sum_range (fun r => H (0 + 128 * r + s)) 7812,
    sum_congr rfl fun s _ => Fin.sum_univ_eq_sum_range (fun r => H (999936 + 128 * r + s)) 7813, sum_rows, sum_rows, Fin.sum_univ_eq_sum_range H 2000000]
  have h : (2000000 : ℕ) = 999936 + 128 * 7813 := by norm_num
  rw [h, sum_range_add, show 128 * 7812 = 999936 from rfl]
  simp only [Nat.zero_add]

end Cert.KernelIdeal.Part

end
-- ==== Proof.Part.Result.lean ====
/-
  Over the extended reals and for probabilities below infinity: what the whole program leaves in its result is the root of
  the mean gap of the bins.
-/
module

public import proofs.«01_k».proof.Proof.Part.Host
public import proofs.«01_k».proof.Proof.Part.Value2
public import proofs.«01_k».proof.Proof.Part.Fold

@[expose] public section

set_option maxRecDepth 8192

noncomputable section

namespace Cert.KernelIdeal.Part

open Idealize.ShloMosaic Idealize.ShloMosaic.TcCoe Idealize.ShloMosaic.Tactic
open Idealize.ShloMosaic.ValueIdx hiding ix0 ix1 ix2 ix3 eq_ix1 eq_ix2 eq_ix3
open Cert.KernelIdeal Cert.KernelIdeal.Gen
open scoped BigOperators

variable (A : (⟨2, ![2000000, 10]⟩ : Shape).Idx → EReal) (L : (⟨1, ![2000000]⟩ : Shape).Idx → BitVec 32)

/-- What sample `x` adds to the sum `i` of class `c` over edge `k`. -/
def sample (i : Fin 3) (k : ℕ) (c : Fin 10) (x : ℕ) : ℝ :=
  if h : x < 2000000 then above i k (A (ix2 ⟨x, h⟩ c)) (L (ix1 ⟨x, h⟩)) c.val else 0

/-- The class of a lane. -/
def laneClass (l : Fin 1280) : Fin 10 := ⟨l.val % 10, Nat.mod_lt _ (by norm_num)⟩

/-- Both streaming calls' sums of a lane over an edge. -/
def lane (i : Fin 3) (k : Fin 11) (l : Fin 1280) : ℝ :=
  (∑ r : Fin 7812, sample A L i k.val (laneClass l) (0 + 128 * r.val + l.val / 10)) + ∑ r : Fin 7813, sample A L i k.val (laneClass l) (999936 + 128 * r.val + l.val / 10)

/-- The lanes of a class sum to its samples over an edge. -/
theorem sum_lane (i : Fin 3) (k : Fin 11) (c : Fin 10) :
    (∑ l : Fin 1280, if l.val % 10 = c.val then lane A L i k l else 0) = ∑ n : Fin 2000000, above i k.val (A (ix2 n c)) (L (ix1 n)) c.val := by
  have h : ∀ l : Fin 1280, (if l.val % 10 = c.val then lane A L i k l else 0)
      = if l.val % 10 = c.val then (∑ r : Fin 7812, sample A L i k.val c (0 + 128 * r.val + l.val / 10)) + ∑ r : Fin 7813, sample A L i k.val c (999936 + 128 * r.val + l.val / 10) else 0 := by
    intro l
    by_cases hc : l.val % 10 = c.val
    · have e : laneClass l = c := Fin.ext hc
      rw [if_pos hc, if_pos hc]
      unfold lane
      rw [e]
    · rw [if_neg hc, if_neg hc]
  rw [Finset.sum_congr rfl fun l _ => h l, sum_samples (sample A L i k.val c) c]
  exact Finset.sum_congr rfl fun n _ => dif_pos n.isLt

/-- The lanes' sums over a bin's two edges give the bin's sum. -/
theorem classSum_lane (i : Fin 3) (c b : Fin 10) :
    classSum (fun b l => lane A L i ⟨b.val, by omega⟩ l - lane A L i ⟨b.val + 1, by omega⟩ l) b c.val = binSum A L i c b := by
  unfold classSum binSum
  have h : ∀ l : Fin 1280, (if l.val % 10 = c.val then lane A L i ⟨b.val, by omega⟩ l - lane A L i ⟨b.val + 1, by omega⟩ l else 0)
      = (if l.val % 10 = c.val then lane A L i ⟨b.val, by omega⟩ l else 0) - if l.val % 10 = c.val then lane A L i ⟨b.val + 1, by omega⟩ l else 0 := by
    intro l
    split
    · rfl
    · exact (sub_zero _).symm
  rw [Finset.sum_congr rfl fun l _ => h l, Finset.sum_sub_distrib, sum_lane, sum_lane, ← Finset.sum_sub_distrib]
  exact Finset.sum_congr rfl fun n _ => above_sub _ _ _ _ _

variable {A L} (hA : ∀ n c, A (ix2 n c) < ⊤)

include hA in
/-- What a lane's element adds is real. -/
theorem pick_sample (i : Fin 3) (k : Fin 11) (l : Fin 1280) (x : ℕ) (hx : x < 2000000) :
    pick (edge k.val : EReal) (val i (A (ix2 ⟨x, hx⟩ (laneClass l))) (if L (ix1 ⟨x, hx⟩) = BitVec.ofNat 32 (l.val % 10) then 1 else 0)) (A (ix2 ⟨x, hx⟩ (laneClass l)))
      = (sample A L i k.val (laneClass l) x : EReal) := by
  unfold sample
  rw [dif_pos hx]
  exact pick_above i k.val _ (hA _ _) _ (laneClass l).val

variable (m : (ℓ : Loc nD τ sig) → Buf (Elt Ideal) ℓ) (c : Dev nD)
  (eA : (m ((c.tc : Thread nD τ).loc main_arg0) : Vec Ideal S2000000x10 .f32) = A) (eL : (m ((c.tc : Thread nD τ).loc main_arg1) : Vec Ideal S2000000 .i32) = L)

include hA eA eL in
/-- The first call's sums. -/
theorem total0_real (i : Fin 3) (k : Fin 11) (l : Fin 1280) :
    total0 (V3 m c) i k l = ((∑ r : Fin 7812, sample A L i k.val (laneClass l) (0 + 128 * r.val + l.val / 10) : ℝ) : EReal) := by
  unfold total0
  rw [coe_sum]
  refine Finset.sum_congr rfl fun r _ => ?_
  unfold mark
  rw [edges0_eq, elems0_read, labels0_read, eA, eL]
  exact pick_sample hA i k l _ _

include hA eA eL in
/-- The second call's sums. -/
theorem total1_real (A0 : Left (τ := τ) (pcfgs (F := Ideal)) adm 0 c) (i : Fin 3) (k : Fin 11) (l : Fin 1280) :
    total1 (W5 m c A0) i k l = ((∑ r : Fin 7813, sample A L i k.val (laneClass l) (999936 + 128 * r.val + l.val / 10) : ℝ) : EReal) := by
  unfold total1
  rw [coe_sum]
  refine Finset.sum_congr rfl fun r _ => ?_
  unfold mark
  rw [edges1_eq, elems1_read, labels1_read, eA, eL]
  exact pick_sample hA i k l _ _

include hA eA eL in
/-- The program's result. -/
theorem final_value (V : Valuation τ sig (Elt Ideal)) (h : Final m c V) :
    ((V (Proc.devRef .tc main_v13) : Vec Ideal S_ .f32) ix0 : EReal) = ((Real.sqrt (meanGap (binSum A L 0) (binSum A L 1) (binSum A L 2)) : ℝ) : EReal) := by
  obtain ⟨A0, A1, A2, h0, h1, h2, rfl⟩ := h
  have n0 : ∀ k, 0 ≤ edges0 (V3 m c) k := fun k => by rw [edges0_eq]; exact edge_nonneg _
  have n1 : ∀ k, 0 ≤ edges1 (W5 m c A0) k := fun k => by rw [edges1_eq]; exact edge_nonneg _
  obtain ⟨X0, X1, X2, X3, X4, X5, hG, f0, f1, f2, f3, f4, f5⟩ := arr2 (U := UU) c (fun _ => next1 (W5 m c A0) c A1) (A2 6) (h2 6)
  have g0 := fun k l => (f0 k l).trans ((congrFun ((next1_of (W5 m c A0) c A1 main_v6_0 (by decide) (by decide) (by decide)).trans
    ((StableHlo.after_of_writes_sub hostOps1 _ hostOps1_writes (by decide)).trans (next0_0 (V3 m c) c A0))) (ix2 k l)).trans ((arr0_0 (U := UU) c (V3 m) n0 _ (h0 3) k l).trans (total0_real hA m c eA eL 0 k l)))
  have g1 := fun k l => (f1 k l).trans ((congrFun ((next1_of (W5 m c A0) c A1 main_v6_1 (by decide) (by decide) (by decide)).trans
    ((StableHlo.after_of_writes_sub hostOps1 _ hostOps1_writes (by decide)).trans (next0_1 (V3 m c) c A0))) (ix2 k l)).trans ((arr0_1 (U := UU) c (V3 m) n0 _ (h0 4) k l).trans (total0_real hA m c eA eL 1 k l)))
  have g2 := fun k l => (f2 k l).trans ((congrFun ((next1_of (W5 m c A0) c A1 main_v6_2 (by decide) (by decide) (by decide)).trans
    ((StableHlo.after_of_writes_sub hostOps1 _ hostOps1_writes (by decide)).trans (next0_2 (V3 m c) c A0))) (ix2 k l)).trans ((arr0_2 (U := UU) c (V3 m) n0 _ (h0 5) k l).trans (total0_real hA m c eA eL 2 k l)))
  have g3 := fun k l => (f3 k l).trans ((congrFun (next1_0 (W5 m c A0) c A1) (ix2 k l)).trans ((arr1_0 (U := UU) c (fun _ => W5 m c A0) n1 _ (h1 3) k l).trans (total1_real hA m c eA eL A0 0 k l)))
  have g4 := fun k l => (f4 k l).trans ((congrFun (next1_1 (W5 m c A0) c A1) (ix2 k l)).trans ((arr1_1 (U := UU) c (fun _ => W5 m c A0) n1 _ (h1 4) k l).trans (total1_real hA m c eA eL A0 1 k l)))
  have g5 := fun k l => (f5 k l).trans ((congrFun (next1_2 (W5 m c A0) c A1) (ix2 k l)).trans ((arr1_2 (U := UU) c (fun _ => W5 m c A0) n1 _ (h1 5) k l).trans (total1_real hA m c eA eL A0 2 k l)))
  have hr : (StableHlo.after hostOps3 (next2 (next1 (W5 m c A0) c A1) c A2) (Proc.devRef .tc main_v13) : Vec Ideal S_ .f32)
      = shapeCast S_ (next2 (next1 (W5 m c A0) c A1) c A2 (Proc.devRef .tc main_v12) : Vec Ideal S1x1 .f32) shapeCasts_S1x1_S_ := by
    generalize next2 (next1 (W5 m c A0) c A1) c A2 = V
    after_results_simp
    rfl
  have hv : (StableHlo.after hostOps3 (next2 (next1 (W5 m c A0) c A1) c A2) (Proc.devRef .tc main_v13) : Vec Ideal S_ .f32) ix0 = closing X0 X1 X2 X3 X4 X5 (ix2 0 0) :=
    (congrFun hr ix0).trans ((shapeCast_apply _ _ ix0 (ix2 0 0) rfl).trans ((congrFun (next2_0 (next1 (W5 m c A0) c A1) c A2) (ix2 0 0)).trans hG))
  refine hv.trans ?_
  refine closing_apply X0 X1 X2 X3 X4 X5 (lane A L 0) (lane A L 1) (lane A L 2) _ _ _ (fun k l => ?_) (fun k l => ?_) (fun k l => ?_)
    (classSum_lane A L 0) (classSum_lane A L 1) (classSum_lane A L 2) (binSum_nonneg A L)
  · exact (congrArg₂ (fun p q : EReal => p + q) (g0 k l) (g3 k l)).trans (EReal.coe_add _ _).symm
  · exact (congrArg₂ (fun p q : EReal => p + q) (g1 k l) (g4 k l)).trans (EReal.coe_add _ _).symm
  · exact (congrArg₂ (fun p q : EReal => p + q) (g2 k l) (g5 k l)).trans (EReal.coe_add _ _).symm

end Cert.KernelIdeal.Part

end
-- ==== Proof.Part.RefFinish.lean ====
/- The reference's last stage over the extended reals: from real bin sums, the root of the mean gap over bins and classes. -/
module

public import proofs.«01_k».proof.Proof.Part.RefBins

@[expose] public section

set_option maxRecDepth 8192

noncomputable section

namespace Cert.ReferenceIdeal.Stage

open Idealize.ShloMosaic Idealize.ShloMosaic.TcCoe
open Idealize.ShloMosaic.ValueIdx hiding ix0 ix1 ix2 ix3 eq_ix1 eq_ix2 eq_ix3
open Cert.ReferenceIdeal Cert.ReferenceIdeal.Gen
open Cert.KernelIdeal.Part (edge edge_nonneg edge_le within choose_within coe_sum div_real binSum binSum_nonneg gap gap_nonneg meanGap meanGap_nonneg val pick select_ogt)
open scoped BigOperators

/-- A choice by the sign of a real. -/
theorem select_pos (n : ℝ) (x y : EReal) :
    Scalar.select (FloatOps.cmpf (F := Ideal) (φ := .f32) .ogt (n : EReal) (Ideal.ofBits .f32 0x00000000#32 : EReal)) x y = if 0 < n then x else y := by
  rw [zero_eq]
  refine (select_ogt _ _ _ _).trans (if_congr ?_ rfl rfl)
  exact EReal.coe_lt_coe_iff

/-- The gap of a bin, as the reference computes it. -/
theorem gap_cell (n f a S : ℝ) (hS : 0 < n → 0 < S) :
    Scalar.select (FloatOps.cmpf (F := Ideal) (φ := .f32) .ogt (n : EReal) (Ideal.ofBits .f32 0x00000000#32 : EReal))
      (Ideal.div (n : EReal) (S : EReal)
        * ((Ideal.div (f : EReal) (Scalar.select (FloatOps.cmpf (F := Ideal) (φ := .f32) .ogt (n : EReal) (Ideal.ofBits .f32 0x00000000#32 : EReal)) (n : EReal) (Ideal.ofBits .f32 0x3F800000#32 : EReal))
            - Ideal.div (a : EReal) (Scalar.select (FloatOps.cmpf (F := Ideal) (φ := .f32) .ogt (n : EReal) (Ideal.ofBits .f32 0x00000000#32 : EReal)) (n : EReal) (Ideal.ofBits .f32 0x3F800000#32 : EReal)))
          * (Ideal.div (f : EReal) (Scalar.select (FloatOps.cmpf (F := Ideal) (φ := .f32) .ogt (n : EReal) (Ideal.ofBits .f32 0x00000000#32 : EReal)) (n : EReal) (Ideal.ofBits .f32 0x3F800000#32 : EReal))
            - Ideal.div (a : EReal) (Scalar.select (FloatOps.cmpf (F := Ideal) (φ := .f32) .ogt (n : EReal) (Ideal.ofBits .f32 0x00000000#32 : EReal)) (n : EReal) (Ideal.ofBits .f32 0x3F800000#32 : EReal)))))
      (Ideal.ofBits .f32 0x00000000#32 : EReal) = (gap n f a S : EReal) := by
  rw [select_pos, select_pos]
  unfold gap
  by_cases h : 0 < n
  · have hs := hS h
    rw [if_pos h, if_pos h, if_pos h, div_real _ h.ne', div_real _ h.ne', div_real _ hs.ne', ← EReal.coe_sub, ← EReal.coe_mul, ← EReal.coe_mul]
    congr 1
    field_simp
  · rw [if_neg h, if_neg h]
    exact zero_eq

/-- A sum over the bins of a class. -/
theorem overBins (v : FVec Ideal S10x10 .f32) (g : Fin 10 → Fin 10 → ℝ) (h : ∀ c b, (v (ix2 c b) : EReal) = (g c b : EReal)) (c : Fin 10) :
    (Host.reduceAdd v (constant S_ .f32 0x00000000#32) reducesTo_S10x10_S10_d1 h_S_ (ix1 c) : EReal) = ((∑ b, g c b : ℝ) : EReal) := by
  have hr : S10x10.Reduces [1] S10 := by decide
  refine (Ideal.hostReduceAdd_single reducesTo_S10x10_S10_d1 hr _ _ (ix1 c)).trans ?_
  refine (congrArg (· + _) zero_eq).trans ?_
  rw [EReal.coe_zero, zero_add, coe_sum]
  refine Finset.sum_congr rfl fun b _ => ?_
  have hl : hr.lift (ix1 c) b = ix2 c b := funext fun a => match a with | ⟨0, _⟩ => rfl | ⟨1, _⟩ => rfl
  rw [hl]
  exact h c b

/-- A sum over the classes. -/
theorem overClasses (v : FVec Ideal S10 .f32) (g : Fin 10 → ℝ) (h : ∀ c, (v (ix1 c) : EReal) = (g c : EReal)) :
    (Host.reduceAdd v (constant S_ .f32 0x00000000#32) reducesTo_S10_S_d0 h_S_ ix0 : EReal) = ((∑ c, g c : ℝ) : EReal) := by
  refine (Ideal.hostReduceAdd_total reducesTo_S10_S_d0 (fun b => b.elim0) _ _ ix0).trans ?_
  refine (congrArg (· + _) zero_eq).trans ?_
  rw [EReal.coe_zero, zero_add, coe_sum]
  exact (Idealize.ShloMosaic.sum_idx1 v).trans (Finset.sum_congr rfl fun c _ => h c)

/-- A class's value beside its bins. -/
theorem acrossBins (v : FVec Ideal S10 .f32) (c b : Fin 10) :
    (broadcastInDim S10x10 ![0, 1] bcast_S10x1_S10x10_0_1 (broadcastInDim S10x1 ![0] bcast_S10_S10x1_0 v)) (ix2 c b) = v (ix1 c) := by
  refine (broadcastInDim_apply _ _ _ _ (ix2 c 0) fun a => ?_).trans (broadcastInDim_apply _ _ _ _ (ix1 c) fun a => ?_)
  · match a with
    | ⟨0, _⟩ => rfl
    | ⟨1, _⟩ => rfl
  · match a with
    | ⟨0, _⟩ => rfl

/-- The reference's result from real bin sums. -/
theorem finish_apply (n f a : FVec Ideal S10x10 .f32) (N F A : Fin 10 → Fin 10 → ℝ) (h0 : ∀ c b, (n (ix2 c b) : EReal) = (N c b : EReal))
    (h1 : ∀ c b, (f (ix2 c b) : EReal) = (F c b : EReal)) (h2 : ∀ c b, (a (ix2 c b) : EReal) = (A c b : EReal)) (hN : ∀ c b, 0 ≤ N c b) :
    (finish n f a ix0 : EReal) = ((Real.sqrt (meanGap N F A) : ℝ) : EReal) := by
  unfold finish
  have hcell : ∀ c b, ((select (cmpf .ogt n (broadcastInDim S10x10 ![] bcast_S_S10x10 (constant S_ .f32 0x00000000#32)))
      (mulf (Host.divf n (broadcastInDim S10x10 ![0, 1] bcast_S10x1_S10x10_0_1 (broadcastInDim S10x1 ![0] bcast_S10_S10x1_0 (Host.reduceAdd n (constant S_ .f32 0x00000000#32) reducesTo_S10x10_S10_d1 h_S_))))
        (mulf (subf (Host.divf f (select (cmpf .ogt n (broadcastInDim S10x10 ![] bcast_S_S10x10 (constant S_ .f32 0x00000000#32))) n (broadcastInDim S10x10 ![] bcast_S_S10x10 (id (constant S_ .f32 0x3F800000#32)))))
            (Host.divf a (select (cmpf .ogt n (broadcastInDim S10x10 ![] bcast_S_S10x10 (constant S_ .f32 0x00000000#32))) n (broadcastInDim S10x10 ![] bcast_S_S10x10 (id (constant S_ .f32 0x3F800000#32))))))
          (subf (Host.divf f (select (cmpf .ogt n (broadcastInDim S10x10 ![] bcast_S_S10x10 (constant S_ .f32 0x00000000#32))) n (broadcastInDim S10x10 ![] bcast_S_S10x10 (id (constant S_ .f32 0x3F800000#32)))))
            (Host.divf a (select (cmpf .ogt n (broadcastInDim S10x10 ![] bcast_S_S10x10 (constant S_ .f32 0x00000000#32))) n (broadcastInDim S10x10 ![] bcast_S_S10x10 (id (constant S_ .f32 0x3F800000#32))))))))
      (broadcastInDim S10x10 ![] bcast_S_S10x10 (id (constant S_ .f32 0x00000000#32))) : FVec Ideal S10x10 .f32) (ix2 c b) : EReal)
      = (gap (N c b) (F c b) (A c b) (∑ b', N c b') : EReal) := by
    intro c b
    have hS := (acrossBins (Host.reduceAdd n (constant S_ .f32 0x00000000#32) reducesTo_S10x10_S10_d1 h_S_) c b).trans (overBins n N h0 c)
    have hg := gap_cell (N c b) (F c b) (A c b) (∑ b', N c b') fun h => lt_of_lt_of_le h (Finset.single_le_sum (fun b' _ => hN c b') (Finset.mem_univ b))
    rw [← h0, ← h1, ← h2, ← hS] at hg
    exact hg
  have hsum := overClasses _ _ (overBins _ _ hcell)
  refine (congrArg (fun s : EReal => Ideal.pow (Ideal.div s (Ideal.ofBits .f32 0x41200000#32 : EReal)) (Ideal.ofBits .f32 0x3F000000#32 : EReal)) hsum).trans ?_
  have hm := meanGap_nonneg (n := N) (f := F) (a := A) hN
  rw [ten_eq, half_eq, div_real _ (by norm_num), Ideal.pow_coe_coe]
  show ((Real.rpow (meanGap N F A) (1 / 2) : ℝ) : EReal) = _
  rw [Real.sqrt_eq_rpow]
  rfl

/-- A sum in a bin of real contributions. -/
theorem sumIn_real (A : FVec Ideal S2000000x10 .f32) (L : IVec S2000000 32) (hA : ∀ n c, (A (ix2 n c) : EReal) < ⊤) (v : FVec Ideal S2000000x10x10 .f32) (i : Fin 3)
    (hv : ∀ n c b, (v (ix3 n c b) : EReal) = val i (A (ix2 n c)) (if L (ix1 n) = BitVec.ofNat 32 c.val then 1 else 0)) (c b : Fin 10) :
    (sumIn A v (ix2 c b) : EReal) = ((binSum A L i c b : ℝ) : EReal) := by
  rw [sumIn_apply]
  unfold binSum
  rw [coe_sum]
  refine Finset.sum_congr rfl fun n _ => ?_
  rw [hv]
  exact choose_within i b.val _ (hA n c) _ _

/-- The reference's value: the root of the mean gap of the bins. -/
theorem res_apply (m : (ℓ : Loc nD τ sig) → Buf (Elt Ideal) ℓ) (c : Dev nD) (A : FVec Ideal S2000000x10 .f32) (L : IVec S2000000 32)
    (eA : m ((c.tc : Thread nD τ).loc main_arg0) = A) (eL : m ((c.tc : Thread nD τ).loc main_arg1) = L) (hA : ∀ n c, (A (ix2 n c) : EReal) < ⊤) :
    (Value.res_main_v44 m c ix0 : EReal) = ((Real.sqrt (meanGap (binSum A L 0) (binSum A L 1) (binSum A L 2)) : ℝ) : EReal) := by
  rw [res_eq, eA, eL]
  refine finish_apply _ _ _ _ _ _ (sumIn_real A L hA _ 0 fun n c b => one_eq) (sumIn_real A L hA _ 1 fun n c b => beside_apply A n c b)
    (sumIn_real A L hA _ 2 fun n c b => (beside_apply _ n c b).trans (matched_apply L n c)) (binSum_nonneg A L)

end Cert.ReferenceIdeal.Stage

end
-- ==== Proof.Part.Equal.lean ====
/- The value claim: where every probability is below infinity the program and the reference end with the same result. -/
module

public import proofs.«01_k».proof.Proof.Part.Frames
public import proofs.«01_k».proof.Proof.Part.Result
public import proofs.«01_k».proof.Proof.Part.RefFinish

@[expose] public section

set_option maxRecDepth 8192

noncomputable section

namespace Cert.Proof

open Idealize.ShloMosaic Idealize.SL.Sem
open Cert.KernelIdeal.Part (binSum meanGap final_value)

instance pre_facts : Cert.Pre_below_infinity.Facts where
  bcast_S_S2000000x10 := by decide

/-- The program's arguments. -/
def probas (m : (ℓ : Loc Cert.KernelIdeal.nD Cert.KernelIdeal.τ Cert.KernelIdeal.sig) → Buf (Elt Ideal) ℓ) (c : Dev Cert.KernelIdeal.nD) : (⟨2, ![2000000, 10]⟩ : Shape).Idx → EReal :=
  m ((c.tc : Thread Cert.KernelIdeal.nD Cert.KernelIdeal.τ).loc Cert.KernelIdeal.main_arg0)
def labels (m : (ℓ : Loc Cert.KernelIdeal.nD Cert.KernelIdeal.τ Cert.KernelIdeal.sig) → Buf (Elt Ideal) ℓ) (c : Dev Cert.KernelIdeal.nD) : (⟨1, ![2000000]⟩ : Shape).Idx → BitVec 32 :=
  m ((c.tc : Thread Cert.KernelIdeal.nD Cert.KernelIdeal.τ).loc Cert.KernelIdeal.main_arg1)

/-- What the precondition says of a probability. -/
theorem below (m : (ℓ : Loc Cert.KernelIdeal.nD Cert.KernelIdeal.τ Cert.KernelIdeal.sig) → Buf (Elt Ideal) ℓ) (h : Cert.Pre_KernelIdeal_below_infinity m) (c : Dev Cert.KernelIdeal.nD)
    (n : Fin 2000000) (k : Fin 10) : probas m c (ix2 n k) < ⊤ := by
  have e := congrFun (h c) (ix2 n k)
  have ht : (Ideal.ofBits .f32 0x7F800000#32 : EReal) = ⊤ := by simp [Ideal.ofBits, Ideal.ieee]
  have e' : Ideal.cmp .olt (probas m c (ix2 n k)) (Ideal.ofBits .f32 0x7F800000#32) = 1#1 := e
  rw [ht] at e'
  by_contra hn
  simp only [Ideal.cmp, hn, decide_false] at e'
  exact absurd e' (by decide)

/-- The common result: the root of the mean gap of the bins. -/
def result (m : (ℓ : Loc Cert.KernelIdeal.nD Cert.KernelIdeal.τ Cert.KernelIdeal.sig) → Buf (Elt Ideal) ℓ) (c : Dev Cert.KernelIdeal.nD) : EReal :=
  ((Real.sqrt (meanGap (binSum (probas m c) (labels m c) 0) (binSum (probas m c) (labels m c) 1) (binSum (probas m c) (labels m c) 2)) : ℝ) : EReal)

theorem value : Cert.algebraic_KernelIdeal_ReferenceIdeal_pre_below_infinity := by
  intro m g m' g' hp ha
  refine ⟨fun c _ => result m c, ?_, ?_⟩
  · refine (θ_run Cert.KernelIdeal.defs _ _).mono (fun r h c => ?_) (Cert.KernelIdeal.Part.run (F := Ideal) m g)
    obtain ⟨V, hV, hv, h0, h1⟩ := h.1 c
    refine ⟨hv.trans (funext fun i => ?_), h0, h1⟩
    rw [show i = ix0 from funext fun a => a.elim0]
    exact final_value (below m hp c) m c rfl rfl V hV
  · refine (θ_run Cert.ReferenceIdeal.defs _ _).mono (fun r h c => ?_) (Cert.ReferenceIdeal.Value.run (F := Ideal) m' g')
    refine ⟨(h c).1.trans (funext fun i => ?_), (h c).2⟩
    rw [show i = ix0 from funext fun a => a.elim0]
    exact Cert.ReferenceIdeal.Stage.res_apply m' c _ _ (ha c).1 (ha c).2 (below m hp c)

end Cert.Proof

end
-- ==== Proof.lean ====
/- The proof of the certificate's claims. The run of the kernel is Proof/Part/Launch.lean; the frames are read off it in
   Proof/Part/Frames.lean and the value claim in Proof/Part/Equal.lean. -/
module

public import proofs.«01_k».proof.Defs
public import proofs.«01_k».proof.Proof.Part.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, pre_facts,
  frame_kernel, frame_ideal, fun m g _ => frame_ideal m g trivial, frame_reference, fun m g _ => frame_reference m g trivial, trivial, value⟩

end Cert.Proof

end
